-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv96" .f32 0x3C2AAAAB#32 ((1 / 96 : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_v192) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S4x2048x1024 : Shape := ⟨3, ![4, 2048, 1024]⟩
abbrev S_ : Shape := ⟨0, ![]⟩
abbrev S2048 : Shape := ⟨1, ![2048]⟩
abbrev S256x2048 : Shape := ⟨2, ![256, 2048]⟩
abbrev S256 : Shape := ⟨1, ![256]⟩
abbrev S3x256x4 : Shape := ⟨3, ![3, 256, 4]⟩
abbrev S4x32x256 : Shape := ⟨3, ![4, 32, 256]⟩
abbrev S4x32 : Shape := ⟨2, ![4, 32]⟩
abbrev S4x256x32 : Shape := ⟨3, ![4, 256, 32]⟩
abbrev S4x256 : Shape := ⟨2, ![4, 256]⟩
abbrev S6x1024 : Shape := ⟨2, ![6, 1024]⟩
abbrev S4x2048x2048 : Shape := ⟨3, ![4, 2048, 2048]⟩
abbrev S4x2048 : Shape := ⟨2, ![4, 2048]⟩
abbrev S4x2048x1 : Shape := ⟨3, ![4, 2048, 1]⟩
abbrev S1x1x2048 : Shape := ⟨3, ![1, 1, 2048]⟩
abbrev S2048x256 : Shape := ⟨2, ![2048, 256]⟩
abbrev S4x2048x256 : Shape := ⟨3, ![4, 2048, 256]⟩
abbrev S1x1x256 : Shape := ⟨3, ![1, 1, 256]⟩
abbrev S8192x256 : Shape := ⟨2, ![8192, 256]⟩
abbrev S1x256x4 : Shape := ⟨3, ![1, 256, 4]⟩
abbrev S256x4 : Shape := ⟨2, ![256, 4]⟩
abbrev S8192x4 : Shape := ⟨2, ![8192, 4]⟩
abbrev S8192 : Shape := ⟨1, ![8192]⟩
abbrev S8192x1 : Shape := ⟨2, ![8192, 1]⟩
abbrev S8192x3 : Shape := ⟨2, ![8192, 3]⟩
abbrev S8192x2 : Shape := ⟨2, ![8192, 2]⟩

class Facts : Prop where
  concatenates_S4x2048x1024_S4x2048x1024_S4x2048x2048_d2 : Shape.Concatenates [S4x2048x1024, S4x2048x1024] S4x2048x2048 2
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  transposes_S256x2048_S2048x256_1_0 : S256x2048.Transposes [1, 0] S2048x256
  reducesTo_S4x2048x256_S4x2048_d2 : S4x2048x256.ReducesTo [2] S4x2048
  bcast_S4x2048x1_S4x2048x256_0_1_2 : S4x2048x1.BroadcastsInDim S4x2048x256 (![0, 1, 2] : Fin 3 → Fin S4x2048x256.rank)
  bcast_S256_S1x1x256_2 : S256.BroadcastsInDim S1x1x256 (![2] : Fin 1 → Fin S1x1x256.rank)
  bcast_S1x1x256_S4x2048x256_0_1_2 : S1x1x256.BroadcastsInDim S4x2048x256 (![0, 1, 2] : Fin 3 → Fin S4x2048x256.rank)
  shapeCasts_S4x2048x256_S8192x256 : S4x2048x256.ShapeCasts S8192x256
  sliceFits_S3x256x4_S1x256x4 : S3x256x4.Slices (fun _ => 0) S1x256x4
  shapeCasts_S1x256x4_S256x4 : S1x256x4.ShapeCasts S256x4
  reducesTo_S8192x4_S8192_d1 : S8192x4.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4_0_1 : S8192x1.BroadcastsInDim S8192x4 (![0, 1] : Fin 2 → Fin S8192x4.rank)
  sliceFits_S8192x4_S8192x3 : S8192x4.Slices (fun _ => 0) S8192x3
  bcast_S_S2048 : S_.BroadcastsInDim S2048 (![] : Fin 0 → Fin S2048.rank)
  bcast_S_S256 : S_.BroadcastsInDim S256 (![] : Fin 0 → Fin S256.rank)
  bcast_S_S4x32x256 : S_.BroadcastsInDim S4x32x256 (![] : Fin 0 → Fin S4x32x256.rank)
  bcast_S_S4x32 : S_.BroadcastsInDim S4x32 (![] : Fin 0 → Fin S4x32.rank)
  bcast_S_S4x256 : S_.BroadcastsInDim S4x256 (![] : Fin 0 → Fin S4x256.rank)
  slices_S8192x3_S8192x2_0_0 : S8192x3.Slices ![0, 0] S8192x2
  slices_S8192x3_S8192x2_0_1 : S8192x3.Slices ![0, 1] S8192x2
  dot_S4x2048x2048_S2048x256_S4x2048x256_2_0_01_1_n_n_wf : DotDims.WF S4x2048x2048 S2048x256 S4x2048x256 [2] [0] [0, 1] [1] [] []
  dot_S8192x256_S256x4_S8192x4_1_0_0_1_n_n_wf : DotDims.WF S8192x256 S256x4 S8192x4 [1] [0] [0] [1] [] []

variable [Facts]

def dot_S4x2048x2048_S2048x256_S4x2048x256_2_0_01_1_n_n : DotDims S4x2048x2048 S2048x256 S4x2048x256 where
  lhsContracting := [2]
  rhsContracting := [0]
  lhsNonContracting := [0, 1]
  rhsNonContracting := [1]
  lhsBatch := []
  rhsBatch := []
  wf := dot_S4x2048x2048_S2048x256_S4x2048x256_2_0_01_1_n_n_wf
def dot_S8192x256_S256x4_S8192x4_1_0_0_1_n_n : DotDims S8192x256 S256x4 S8192x4 where
  lhsContracting := [1]
  rhsContracting := [0]
  lhsNonContracting := [0]
  rhsNonContracting := [1]
  lhsBatch := []
  rhsBatch := []
  wf := dot_S8192x256_S256x4_S8192x4_1_0_0_1_n_n_wf
def fn_part5 {F : FTy → Type} [FloatOps F] (main_arg10 : FVec F S4x32 .f32) (main_arg12 : FVec F S4x256 .f32) (main_values : FVec F S8192x3 .f32) (main_v76 : IVec S2048 1) (main_v78 : IVec S2048 1) (main_v80 : IVec S256 1) (main_v82 : IVec S256 1) (main_v85 : IVec S4x32x256 1) (main_v86 : FVec F S4x32 .f32) : IVec S2048 1 × IVec S2048 1 × IVec S256 1 × IVec S256 1 × IVec S4x32x256 1 × IVec S4x32 1 × IVec S4x256 1 × IVec S8192x2 1 :=
  let main_v87 : IVec S4x32 1 := cmpf .oeq main_arg10 main_v86
  let main_cst_29 : FVec F S_ .f32 := constant S_ .f32 0x00000000#32
  let main_v88 : FVec F S4x256 .f32 := broadcastInDim S4x256 ![] bcast_S_S4x256 main_cst_29
  let main_v89 : IVec S4x256 1 := cmpf .oeq main_arg12 main_v88
  let main_v90 : FVec F S8192x2 .f32 := (extractStridedSlice S8192x2 ![0, 0] · slices_S8192x3_S8192x2_0_0) main_values
  let main_v91 : FVec F S8192x2 .f32 := (extractStridedSlice S8192x2 ![0, 1] · slices_S8192x3_S8192x2_0_1) main_values
  let main_v92 : IVec S8192x2 1 := cmpf .ogt main_v90 main_v91
  (main_v76, main_v78, main_v80, main_v82, main_v85, main_v87, main_v89, main_v92)

def fn_part4 {F : FTy → Type} [FloatOps F] (main_arg3 : FVec F S2048 .f32) (main_arg4 : FVec F S2048 .f32) (main_arg6 : FVec F S256 .f32) (main_arg7 : FVec F S256 .f32) (main_arg9 : FVec F S4x32x256 .f32) (main_arg10 : FVec F S4x32 .f32) (main_arg12 : FVec F S4x256 .f32) (main_v70 : FVec F S8192x4 .f32) (main_cst_22 : FVec F S_ .f32) : IVec S2048 1 × IVec S2048 1 × IVec S256 1 × IVec S256 1 × IVec S4x32x256 1 × IVec S4x32 1 × IVec S4x256 1 × IVec S8192x2 1 :=
  let main_v71 : FVec F S8192 .f32 := (fun x v => Host.reduceAdd x v reducesTo_S8192x4_S8192_d1 h_S_) main_v70 main_cst_22
  let main_v72 : FVec F S8192x1 .f32 := broadcastInDim S8192x1 ![0] bcast_S8192_S8192x1_0 main_v71
  let main_v73 : FVec F S8192x4 .f32 := broadcastInDim S8192x4 ![0, 1] bcast_S8192x1_S8192x4_0_1 main_v72
  let main_v74 : FVec F S8192x4 .f32 := Host.divf main_v70 main_v73
  let main_values : FVec F S8192x3 .f32 := (fun x => (Host.topK S8192x3 1 (FloatOps.cmpfTotal .gt) x sliceFits_S8192x4_S8192x3).1) main_v74
  let main_indices : IVec S8192x3 32 := (fun x => (Host.topK S8192x3 1 (FloatOps.cmpfTotal .gt) x sliceFits_S8192x4_S8192x3).2) main_v74
  let main_cst_23 : FVec F S_ .f32 := constant S_ .f32 0x3F800000#32
  let main_v75 : FVec F S2048 .f32 := broadcastInDim S2048 ![] bcast_S_S2048 main_cst_23
  let main_v76 : IVec S2048 1 := cmpf .oeq main_arg3 main_v75
  let main_cst_24 : FVec F S_ .f32 := constant S_ .f32 0x00000000#32
  let main_v77 : FVec F S2048 .f32 := broadcastInDim S2048 ![] bcast_S_S2048 main_cst_24
  let main_v78 : IVec S2048 1 := cmpf .oeq main_arg4 main_v77
  let main_cst_25 : FVec F S_ .f32 := constant S_ .f32 0x3F800000#32
  let main_v79 : FVec F S256 .f32 := broadcastInDim S256 ![] bcast_S_S256 main_cst_25
  let main_v80 : IVec S256 1 := cmpf .oeq main_arg6 main_v79
  let main_cst_26 : FVec F S_ .f32 := constant S_ .f32 0x00000000#32
  let main_v81 : FVec F S256 .f32 := broadcastInDim S256 ![] bcast_S_S256 main_cst_26
  let main_v82 : IVec S256 1 := cmpf .oeq main_arg7 main_v81
  let main_v83 : FVec F S4x32x256 .f32 := Host.absf main_arg9
  let main_cst_27 : FVec F S_ .f32 := constant S_ .f32 0x7F800000#32
  let main_v84 : FVec F S4x32x256 .f32 := broadcastInDim S4x32x256 ![] bcast_S_S4x32x256 main_cst_27
  let main_v85 : IVec S4x32x256 1 := cmpf .olt main_v83 main_v84
  let main_cst_28 : FVec F S_ .f32 := constant S_ .f32 0x00000000#32
  let main_v86 : FVec F S4x32 .f32 := broadcastInDim S4x32 ![] bcast_S_S4x32 main_cst_28
  fn_part5 (F := F) main_arg10 main_arg12 main_values main_v76 main_v78 main_v80 main_v82 main_v85 main_v86

def fn_part3 {F : FTy → Type} [FloatOps F] (main_arg3 : FVec F S2048 .f32) (main_arg4 : FVec F S2048 .f32) (main_arg6 : FVec F S256 .f32) (main_arg7 : FVec F S256 .f32) (main_arg8 : FVec F S3x256x4 .f32) (main_arg9 : FVec F S4x32x256 .f32) (main_arg10 : FVec F S4x32 .f32) (main_arg12 : FVec F S4x256 .f32) (main_v51 : FVec F S8192x256 .f32) (main_v54 : IVec S_ 32) (main_v55 : IVec S_ 1) (main_c_12 : IVec S_ 32) (main_c_13 : IVec S_ 32) : IVec S2048 1 × IVec S2048 1 × IVec S256 1 × IVec S256 1 × IVec S4x32x256 1 × IVec S4x32 1 × IVec S4x256 1 × IVec S8192x2 1 :=
  let main_v56 : IVec S_ 32 := addi main_c_12 main_c_13
  let main_c_14 : IVec S_ 32 := constantI S_ 32 0#32
  let main_v57 : IVec S_ 32 := select main_v55 main_v56 main_c_14
  let main_c_15 : IVec S_ 32 := constantI S_ 32 0#32
  let main_c_16 : IVec S_ 32 := constantI S_ 32 0#32
  let main_v58 : IVec S_ 1 := cmpi .slt main_c_15 main_c_16
  let main_c_17 : IVec S_ 32 := constantI S_ 32 0#32
  let main_c_18 : IVec S_ 32 := constantI S_ 32 4#32
  let main_v59 : IVec S_ 32 := addi main_c_17 main_c_18
  let main_c_19 : IVec S_ 32 := constantI S_ 32 0#32
  let main_v60 : IVec S_ 32 := select main_v58 main_v59 main_c_19
  let main_v61 : FVec F S1x256x4 .f32 := (fun x i => Host.dynamicSlice S1x256x4 x (fun k => (i k (Shape.Idx.first h_S_)).toInt) sliceFits_S3x256x4_S1x256x4) main_arg8 (![main_v54, main_v57, main_v60] : Fin 3 → IVec S_ 32)
  let main_v62 : FVec F S256x4 .f32 := shapeCast S256x4 main_v61 shapeCasts_S1x256x4_S256x4
  let main_v63 : FVec F S8192x4 .f32 := (fun l r => Host.dotGeneral dot_S8192x256_S256x4_S8192x4_1_0_0_1_n_n none l r) main_v51 main_v62
  let main_cst_20 : FVec F S_ .f32 := constant S_ .f32 0xFF800000#32
  let main_v64 : FVec F S8192 .f32 := (fun x v => Host.reduce FloatOps.maximumf x v reducesTo_S8192x4_S8192_d1 h_S_) main_v63 main_cst_20
  let main_cst_21 : FVec F S_ .f32 := constant S_ .f32 0xFF800000#32
  let main_v65 : FVec F S8192 .f32 := broadcastInDim S8192 ![] bcast_S_S8192 main_cst_21
  let main_v66 : FVec F S8192 .f32 := maximumf main_v65 main_v64
  let main_v67 : FVec F S8192x1 .f32 := broadcastInDim S8192x1 ![0] bcast_S8192_S8192x1_0 main_v66
  let main_v68 : FVec F S8192x4 .f32 := broadcastInDim S8192x4 ![0, 1] bcast_S8192x1_S8192x4_0_1 main_v67
  let main_v69 : FVec F S8192x4 .f32 := subf main_v63 main_v68
  let main_v70 : FVec F S8192x4 .f32 := Host.exp main_v69
  let main_cst_22 : FVec F S_ .f32 := constant S_ .f32 0x00000000#32
  fn_part4 (F := F) main_arg3 main_arg4 main_arg6 main_arg7 main_arg9 main_arg10 main_arg12 main_v70 main_cst_22

def fn_part2 {F : FTy → Type} [FloatOps F] (main_arg2 : IVec S_ 32) (main_arg3 : FVec F S2048 .f32) (main_arg4 : FVec F S2048 .f32) (main_arg6 : FVec F S256 .f32) (main_arg7 : FVec F S256 .f32) (main_arg8 : FVec F S3x256x4 .f32) (main_arg9 : FVec F S4x32x256 .f32) (main_arg10 : FVec F S4x32 .f32) (main_arg12 : FVec F S4x256 .f32) (main_v26 : FVec F S4x2048x256 .f32) (main_v37 : FVec F S4x2048x1 .f32) (main_v38 : FVec F S4x2048x256 .f32) : IVec S2048 1 × IVec S2048 1 × IVec S256 1 × IVec S256 1 × IVec S4x32x256 1 × IVec S4x32 1 × IVec S4x256 1 × IVec S8192x2 1 :=
  let main_v39 : FVec F S4x2048x256 .f32 := subf main_v26 main_v38
  let main_cst_8 : FVec F S_ .f32 := constant S_ .f32 0x3727C5AC#32
  let main_v40 : FVec F S4x2048x1 .f32 := broadcastInDim S4x2048x1 ![] bcast_S_S4x2048x1 main_cst_8
  let main_v41 : FVec F S4x2048x1 .f32 := addf main_v37 main_v40
  let main_v42 : FVec F S4x2048x1 .f32 := Host.sqrt main_v41
  let main_v43 : FVec F S4x2048x256 .f32 := broadcastInDim S4x2048x256 ![0, 1, 2] bcast_S4x2048x1_S4x2048x256_0_1_2 main_v42
  let main_v44 : FVec F S4x2048x256 .f32 := Host.divf main_v39 main_v43
  let main_v45 : FVec F S1x1x256 .f32 := broadcastInDim S1x1x256 ![2] bcast_S256_S1x1x256_2 main_arg6
  let main_v46 : FVec F S4x2048x256 .f32 := broadcastInDim S4x2048x256 ![0, 1, 2] bcast_S1x1x256_S4x2048x256_0_1_2 main_v45
  let main_v47 : FVec F S4x2048x256 .f32 := mulf main_v44 main_v46
  let main_v48 : FVec F S1x1x256 .f32 := broadcastInDim S1x1x256 ![2] bcast_S256_S1x1x256_2 main_arg7
  let main_v49 : FVec F S4x2048x256 .f32 := broadcastInDim S4x2048x256 ![0, 1, 2] bcast_S1x1x256_S4x2048x256_0_1_2 main_v48
  let main_v50 : FVec F S4x2048x256 .f32 := addf main_v47 main_v49
  let main_v51 : FVec F S8192x256 .f32 := shapeCast S8192x256 main_v50 shapeCasts_S4x2048x256_S8192x256
  let main_c : IVec S_ 32 := constantI S_ 32 0#32
  let main_v52 : IVec S_ 1 := cmpi .slt main_arg2 main_c
  let main_c_9 : IVec S_ 32 := constantI S_ 32 3#32
  let main_v53 : IVec S_ 32 := addi main_arg2 main_c_9
  let main_v54 : IVec S_ 32 := select main_v52 main_v53 main_arg2
  let main_c_10 : IVec S_ 32 := constantI S_ 32 0#32
  let main_c_11 : IVec S_ 32 := constantI S_ 32 0#32
  let main_v55 : IVec S_ 1 := cmpi .slt main_c_10 main_c_11
  let main_c_12 : IVec S_ 32 := constantI S_ 32 0#32
  let main_c_13 : IVec S_ 32 := constantI S_ 32 256#32
  fn_part3 (F := F) main_arg3 main_arg4 main_arg6 main_arg7 main_arg8 main_arg9 main_arg10 main_arg12 main_v51 main_v54 main_v55 main_c_12 main_c_13

def fn_part1 {F : FTy → Type} [FloatOps F] (main_arg2 : IVec S_ 32) (main_arg3 : FVec F S2048 .f32) (main_arg4 : FVec F S2048 .f32) (main_arg5 : FVec F S256x2048 .f32) (main_arg6 : FVec F S256 .f32) (main_arg7 : FVec F S256 .f32) (main_arg8 : FVec F S3x256x4 .f32) (main_arg9 : FVec F S4x32x256 .f32) (main_arg10 : FVec F S4x32 .f32) (main_arg12 : FVec F S4x256 .f32) (main_v18 : FVec F S4x2048x2048 .f32) : IVec S2048 1 × IVec S2048 1 × IVec S256 1 × IVec S256 1 × IVec S4x32x256 1 × IVec S4x32 1 × IVec S4x256 1 × IVec S8192x2 1 :=
  let main_v19 : FVec F S1x1x2048 .f32 := broadcastInDim S1x1x2048 ![2] bcast_S2048_S1x1x2048_2 main_arg3
  let main_v20 : FVec F S4x2048x2048 .f32 := broadcastInDim S4x2048x2048 ![0, 1, 2] bcast_S1x1x2048_S4x2048x2048_0_1_2 main_v19
  let main_v21 : FVec F S4x2048x2048 .f32 := mulf main_v18 main_v20
  let main_v22 : FVec F S1x1x2048 .f32 := broadcastInDim S1x1x2048 ![2] bcast_S2048_S1x1x2048_2 main_arg4
  let main_v23 : FVec F S4x2048x2048 .f32 := broadcastInDim S4x2048x2048 ![0, 1, 2] bcast_S1x1x2048_S4x2048x2048_0_1_2 main_v22
  let main_v24 : FVec F S4x2048x2048 .f32 := addf main_v21 main_v23
  let main_v25 : FVec F S2048x256 .f32 := (transpose S2048x256 [1, 0] · transposes_S256x2048_S2048x256_1_0) main_arg5
  let main_v26 : FVec F S4x2048x256 .f32 := (fun l r => Host.dotGeneral dot_S4x2048x2048_S2048x256_S4x2048x256_2_0_01_1_n_n none l r) main_v24 main_v25
  let main_cst_4 : FVec F S_ .f32 := constant S_ .f32 0x00000000#32
  let main_v27 : FVec F S4x2048 .f32 := (fun x v => Host.reduceAdd x v reducesTo_S4x2048x256_S4x2048_d2 h_S_) main_v26 main_cst_4
  let main_v28 : FVec F S4x2048x1 .f32 := broadcastInDim S4x2048x1 ![0, 1] bcast_S4x2048_S4x2048x1_0_1 main_v27
  let main_cst_5 : FVec F S_ .f32 := constant S_ .f32 0x43800000#32
  let main_v29 : FVec F S4x2048x1 .f32 := broadcastInDim S4x2048x1 ![] bcast_S_S4x2048x1 main_cst_5
  let main_v30 : FVec F S4x2048x1 .f32 := Host.divf main_v28 main_v29
  let main_v31 : FVec F S4x2048x256 .f32 := broadcastInDim S4x2048x256 ![0, 1, 2] bcast_S4x2048x1_S4x2048x256_0_1_2 main_v30
  let main_v32 : FVec F S4x2048x256 .f32 := subf main_v26 main_v31
  let main_v33 : FVec F S4x2048x256 .f32 := mulf main_v32 main_v32
  let main_cst_6 : FVec F S_ .f32 := constant S_ .f32 0x00000000#32
  let main_v34 : FVec F S4x2048 .f32 := (fun x v => Host.reduceAdd x v reducesTo_S4x2048x256_S4x2048_d2 h_S_) main_v33 main_cst_6
  let main_v35 : FVec F S4x2048x1 .f32 := broadcastInDim S4x2048x1 ![0, 1] bcast_S4x2048_S4x2048x1_0_1 main_v34
  let main_cst_7 : FVec F S_ .f32 := constant S_ .f32 0x43800000#32
  let main_v36 : FVec F S4x2048x1 .f32 := broadcastInDim S4x2048x1 ![] bcast_S_S4x2048x1 main_cst_7
  let main_v37 : FVec F S4x2048x1 .f32 := Host.divf main_v35 main_v36
  let main_v38 : FVec F S4x2048x256 .f32 := broadcastInDim S4x2048x256 ![0, 1, 2] bcast_S4x2048x1_S4x2048x256_0_1_2 main_v30
  fn_part2 (F := F) main_arg2 main_arg3 main_arg4 main_arg6 main_arg7 main_arg8 main_arg9 main_arg10 main_arg12 main_v26 main_v37 main_v38

def fn {F : FTy → Type} [FloatOps F] (main_arg0 : FVec F S4x2048x1024 .f32) (main_arg1 : FVec F S4x2048x1024 .f32) (main_arg2 : IVec S_ 32) (main_arg3 : FVec F S2048 .f32) (main_arg4 : FVec F S2048 .f32) (main_arg5 : FVec F S256x2048 .f32) (main_arg6 : FVec F S256 .f32) (main_arg7 : FVec F S256 .f32) (main_arg8 : FVec F S3x256x4 .f32) (main_arg9 : FVec F S4x32x256 .f32) (main_arg10 : FVec F S4x32 .f32) (main_arg11 : FVec F S4x256x32 .f32) (main_arg12 : FVec F S4x256 .f32) (main_arg13 : FVec F S6x1024 .f32) : IVec S2048 1 × IVec S2048 1 × IVec S256 1 × IVec S256 1 × IVec S4x32x256 1 × IVec S4x32 1 × IVec S4x256 1 × IVec S8192x2 1 :=
  let main_v0 : FVec F S4x2048x2048 .f32 := (fun a b => concatenate S4x2048x2048 2 [⟨S4x2048x1024, a⟩, ⟨S4x2048x1024, b⟩] concatenates_S4x2048x1024_S4x2048x1024_S4x2048x2048_d2) main_arg0 main_arg1
  let main_cst : FVec F S_ .f32 := constant S_ .f32 0x00000000#32
  let main_v1 : FVec F S4x2048 .f32 := (fun x v => Host.reduceAdd x v reducesTo_S4x2048x2048_S4x2048_d2 h_S_) main_v0 main_cst
  let main_v2 : FVec F S4x2048x1 .f32 := broadcastInDim S4x2048x1 ![0, 1] bcast_S4x2048_S4x2048x1_0_1 main_v1
  let main_cst_0 : FVec F S_ .f32 := constant S_ .f32 0x45000000#32
  let main_v3 : FVec F S4x2048x1 .f32 := broadcastInDim S4x2048x1 ![] bcast_S_S4x2048x1 main_cst_0
  let main_v4 : FVec F S4x2048x1 .f32 := Host.divf main_v2 main_v3
  let main_v5 : FVec F S4x2048x2048 .f32 := broadcastInDim S4x2048x2048 ![0, 1, 2] bcast_S4x2048x1_S4x2048x2048_0_1_2 main_v4
  let main_v6 : FVec F S4x2048x2048 .f32 := subf main_v0 main_v5
  let main_v7 : FVec F S4x2048x2048 .f32 := mulf main_v6 main_v6
  let main_cst_1 : FVec F S_ .f32 := constant S_ .f32 0x00000000#32
  let main_v8 : FVec F S4x2048 .f32 := (fun x v => Host.reduceAdd x v reducesTo_S4x2048x2048_S4x2048_d2 h_S_) main_v7 main_cst_1
  let main_v9 : FVec F S4x2048x1 .f32 := broadcastInDim S4x2048x1 ![0, 1] bcast_S4x2048_S4x2048x1_0_1 main_v8
  let main_cst_2 : FVec F S_ .f32 := constant S_ .f32 0x45000000#32
  let main_v10 : FVec F S4x2048x1 .f32 := broadcastInDim S4x2048x1 ![] bcast_S_S4x2048x1 main_cst_2
  let main_v11 : FVec F S4x2048x1 .f32 := Host.divf main_v9 main_v10
  let main_v12 : FVec F S4x2048x2048 .f32 := broadcastInDim S4x2048x2048 ![0, 1, 2] bcast_S4x2048x1_S4x2048x2048_0_1_2 main_v4
  let main_v13 : FVec F S4x2048x2048 .f32 := subf main_v0 main_v12
  let main_cst_3 : FVec F S_ .f32 := constant S_ .f32 0x3727C5AC#32
  let main_v14 : FVec F S4x2048x1 .f32 := broadcastInDim S4x2048x1 ![] bcast_S_S4x2048x1 main_cst_3
  let main_v15 : FVec F S4x2048x1 .f32 := addf main_v11 main_v14
  let main_v16 : FVec F S4x2048x1 .f32 := Host.sqrt main_v15
  let main_v17 : FVec F S4x2048x2048 .f32 := broadcastInDim S4x2048x2048 ![0, 1, 2] bcast_S4x2048x1_S4x2048x2048_0_1_2 main_v16
  let main_v18 : FVec F S4x2048x2048 .f32 := Host.divf main_v13 main_v17
  fn_part1 (F := F) main_arg2 main_arg3 main_arg4 main_arg5 main_arg6 main_arg7 main_arg8 main_arg9 main_arg10 main_arg12 main_v18
-- ==== Kernel.lean ====
abbrev S4x2048x1024 : Shape := ⟨3, ![4, 2048, 1024]⟩
abbrev S_ : Shape := ⟨0, ![]⟩
abbrev S2048 : Shape := ⟨1, ![2048]⟩
abbrev S256x2048 : Shape := ⟨2, ![256, 2048]⟩
abbrev S256 : Shape := ⟨1, ![256]⟩
abbrev S3x256x4 : Shape := ⟨3, ![3, 256, 4]⟩
abbrev S4x32x256 : Shape := ⟨3, ![4, 32, 256]⟩
abbrev S4x32 : Shape := ⟨2, ![4, 32]⟩
abbrev S4x256x32 : Shape := ⟨3, ![4, 256, 32]⟩
abbrev S4x256 : Shape := ⟨2, ![4, 256]⟩
abbrev S6x1024 : Shape := ⟨2, ![6, 1024]⟩
abbrev S8192x1024 : Shape := ⟨2, ![8192, 1024]⟩
abbrev S1x256x4 : Shape := ⟨3, ![1, 256, 4]⟩
abbrev S256x4 : Shape := ⟨2, ![256, 4]⟩
abbrev S256x4x32 : Shape := ⟨3, ![256, 4, 32]⟩
abbrev S256x128 : Shape := ⟨2, ![256, 128]⟩
abbrev S128x256 : Shape := ⟨2, ![128, 256]⟩
abbrev S128x128 : Shape := ⟨2, ![128, 128]⟩
abbrev S128 : Shape := ⟨1, ![128]⟩
abbrev S1x128 : Shape := ⟨2, ![1, 128]⟩
abbrev S1x1024 : Shape := ⟨2, ![1, 1024]⟩
abbrev S2048x256 : Shape := ⟨2, ![2048, 256]⟩
abbrev S1024x256 : Shape := ⟨2, ![1024, 256]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩
abbrev S1 : Shape := ⟨1, ![1]⟩

abbrev nBuf : Space → Nat
  | .hbm => 72
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .i32⟩
  | .hbm, ⟨3, _⟩ => ⟨S2048, .f32⟩
  | .hbm, ⟨4, _⟩ => ⟨S2048, .f32⟩
  | .hbm, ⟨5, _⟩ => ⟨S256x2048, .f32⟩
  | .hbm, ⟨6, _⟩ => ⟨S256, .f32⟩
  | .hbm, ⟨7, _⟩ => ⟨S256, .f32⟩
  | .hbm, ⟨8, _⟩ => ⟨S3x256x4, .f32⟩
  | .hbm, ⟨9, _⟩ => ⟨S4x32x256, .f32⟩
  | .hbm, ⟨10, _⟩ => ⟨S4x32, .f32⟩
  | .hbm, ⟨11, _⟩ => ⟨S4x256x32, .f32⟩
  | .hbm, ⟨12, _⟩ => ⟨S4x256, .f32⟩
  | .hbm, ⟨13, _⟩ => ⟨S6x1024, .f32⟩
  | .hbm, ⟨14, _⟩ => ⟨S8192x1024, .f32⟩
  | .hbm, ⟨15, _⟩ => ⟨S8192x1024, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x256x4, .f32⟩
  | .hbm, ⟨24, _⟩ => ⟨S256x4, .f32⟩
  | .hbm, ⟨25, _⟩ => ⟨S256x4x32, .f32⟩
  | .hbm, ⟨26, _⟩ => ⟨S256x128, .f32⟩
  | .hbm, ⟨27, _⟩ => ⟨S128x256, .f32⟩
  | .hbm, ⟨28, _⟩ => ⟨S256x128, .f32⟩
  | .hbm, ⟨29, _⟩ => ⟨S4x32x256, .f32⟩
  | .hbm, ⟨30, _⟩ => ⟨S128x256, .f32⟩
  | .hbm, ⟨31, _⟩ => ⟨S128x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S128x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x1024, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x1024, .f32⟩
  | .hbm, ⟨65, _⟩ => ⟨S2048x256, .f32⟩
  | .hbm, ⟨66, _⟩ => ⟨S1024x256, .f32⟩
  | .hbm, ⟨67, _⟩ => ⟨S1024x256, .f32⟩
  | .hbm, ⟨68, _⟩ => ⟨S8192x1024, .f32⟩
  | .hbm, ⟨69, _⟩ => ⟨S1x1, .f32⟩
  | .hbm, ⟨70, _⟩ => ⟨S8192x1024, .f32⟩
  | .hbm, ⟨71, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x256, .f32⟩
  | .local _ .vmem, ⟨5, _⟩ => ⟨S1024x256, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1x1, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1x128, .f32⟩
  | .local _ .vmem, ⟨20, _⟩ => ⟨S1x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_call0_c : Ref sig .tc := ⟨.hbm, 16, rfl⟩
abbrev main_call0_v0 : Ref sig .tc := ⟨.hbm, 17, rfl⟩
abbrev main_call0_c_0 : Ref sig .tc := ⟨.hbm, 18, rfl⟩
abbrev main_call0_v1 : Ref sig .tc := ⟨.hbm, 19, rfl⟩
abbrev main_call0_v2 : Ref sig .tc := ⟨.hbm, 20, rfl⟩
abbrev main_call0_c_1 : Ref sig .tc := ⟨.hbm, 21, rfl⟩
abbrev main_call0_c_2 : Ref sig .tc := ⟨.hbm, 22, rfl⟩
abbrev main_call0_v3 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_c_5 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_c_9 : Ref sig .tc := ⟨.hbm, 60, rfl⟩
abbrev main_v27 : Ref sig .tc := ⟨.hbm, 61, rfl⟩
abbrev main_v28 : Ref sig .tc := ⟨.hbm, 62, rfl⟩
abbrev main_c_10 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33_0 : Ref sig .tc := ⟨.hbm, 68, rfl⟩
abbrev main_v33_1 : Ref sig .tc := ⟨.hbm, 69, rfl⟩
abbrev main_v33_2 : Ref sig .tc := ⟨.hbm, 70, rfl⟩
abbrev main_v33_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v143 : BitVec 1 := Scalar.cmpi .eq arg0 c7_i32
  let v144 : BitVec 32 := Scalar.extui v143
  let c0_i32_65 : BitVec 32 := 0#32
  let v145 : BitVec 1 := Scalar.cmpi .ne v144 c0_i32_65
  v145

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "inv96" => some ((1 / 96 : ℝ) : EReal)
  | _ => none
-- ==== ReferenceIdeal.lean ====
abbrev S4x2048x1024 : Shape := ⟨3, ![4, 2048, 1024]⟩
abbrev S_ : Shape := ⟨0, ![]⟩
abbrev S2048 : Shape := ⟨1, ![2048]⟩
abbrev S256x2048 : Shape := ⟨2, ![256, 2048]⟩
abbrev S256 : Shape := ⟨1, ![256]⟩
abbrev S3x256x4 : Shape := ⟨3, ![3, 256, 4]⟩
abbrev S4x32x256 : Shape := ⟨3, ![4, 32, 256]⟩
abbrev S4x32 : Shape := ⟨2, ![4, 32]⟩
abbrev S4x256x32 : Shape := ⟨3, ![4, 256, 32]⟩
abbrev S4x256 : Shape := ⟨2, ![4, 256]⟩
abbrev S6x1024 : Shape := ⟨2, ![6, 1024]⟩
abbrev S4x2048x2048 : Shape := ⟨3, ![4, 2048, 2048]⟩
abbrev S4x2048 : Shape := ⟨2, ![4, 2048]⟩
abbrev S4x2048x1 : Shape := ⟨3, ![4, 2048, 1]⟩
abbrev S1x1x2048 : Shape := ⟨3, ![1, 1, 2048]⟩
abbrev S2048x256 : Shape := ⟨2, ![2048, 256]⟩
abbrev S4x2048x256 : Shape := ⟨3, ![4, 2048, 256]⟩
abbrev S1x1x256 : Shape := ⟨3, ![1, 1, 256]⟩
abbrev S8192x256 : Shape := ⟨2, ![8192, 256]⟩
abbrev S1x256x4 : Shape := ⟨3, ![1, 256, 4]⟩
abbrev S256x4 : Shape := ⟨2, ![256, 4]⟩
abbrev S8192x4 : Shape := ⟨2, ![8192, 4]⟩
abbrev S8192 : Shape := ⟨1, ![8192]⟩
abbrev S8192x1 : Shape := ⟨2, ![8192, 1]⟩
abbrev S8192x3 : Shape := ⟨2, ![8192, 3]⟩
abbrev S8192x2 : Shape := ⟨2, ![8192, 2]⟩
abbrev S8192x2x1 : Shape := ⟨3, ![8192, 2, 1]⟩
abbrev S8192x2x2 : Shape := ⟨3, ![8192, 2, 2]⟩
abbrev S4 : Shape := ⟨1, ![4]⟩
abbrev S1 : Shape := ⟨1, ![1]⟩
abbrev S4x32x8192 : Shape := ⟨3, ![4, 32, 8192]⟩
abbrev S4x8192x32 : Shape := ⟨3, ![4, 8192, 32]⟩
abbrev S4x1x32 : Shape := ⟨3, ![4, 1, 32]⟩
abbrev S4x8192x256 : Shape := ⟨3, ![4, 8192, 256]⟩
abbrev S4x1x256 : Shape := ⟨3, ![4, 1, 256]⟩
abbrev S4x2048x128 : Shape := ⟨3, ![4, 2048, 128]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩
abbrev S1x1 : Shape := ⟨2, ![1, 1]⟩

abbrev nBuf : Space → Nat
  | .hbm => 321
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S_, .i32⟩
  | 3 => ⟨S2048, .f32⟩
  | 4 => ⟨S2048, .f32⟩
  | 5 => ⟨S256x2048, .f32⟩
  | 6 => ⟨S256, .f32⟩
  | 7 => ⟨S256, .f32⟩
  | 8 => ⟨S3x256x4, .f32⟩
  | 9 => ⟨S4x32x256, .f32⟩
  | 10 => ⟨S4x32, .f32⟩
  | 11 => ⟨S4x256x32, .f32⟩
  | 12 => ⟨S4x256, .f32⟩
  | 13 => ⟨S6x1024, .f32⟩
  | 14 => ⟨S4x2048x2048, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S4x2048x2048, .f32⟩
  | 22 => ⟨S4x2048x2048, .f32⟩
  | 23 => ⟨S4x2048x2048, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S4x2048x2048, .f32⟩
  | 31 => ⟨S4x2048x2048, .f32⟩
  | 32 => ⟨S_, .f32⟩
  | 33 => ⟨S4x2048x1, .f32⟩
  | 34 => ⟨S4x2048x1, .f32⟩
  | 35 => ⟨S4x2048x1, .f32⟩
  | 36 => ⟨S4x2048x2048, .f32⟩
  | 37 => ⟨S4x2048x2048, .f32⟩
  | 38 => ⟨S1x1x2048, .f32⟩
  | 39 => ⟨S4x2048x2048, .f32⟩
  | 40 => ⟨S4x2048x2048, .f32⟩
  | 41 => ⟨S1x1x2048, .f32⟩
  | 42 => ⟨S4x2048x2048, .f32⟩
  | 43 => ⟨S4x2048x2048, .f32⟩
  | 44 => ⟨S2048x256, .f32⟩
  | 45 => ⟨S4x2048x256, .f32⟩
  | 46 => ⟨S_, .f32⟩
  | 47 => ⟨S4x2048, .f32⟩
  | 48 => ⟨S4x2048x1, .f32⟩
  | 49 => ⟨S_, .f32⟩
  | 50 => ⟨S4x2048x1, .f32⟩
  | 51 => ⟨S4x2048x1, .f32⟩
  | 52 => ⟨S4x2048x256, .f32⟩
  | 53 => ⟨S4x2048x256, .f32⟩
  | 54 => ⟨S4x2048x256, .f32⟩
  | 55 => ⟨S_, .f32⟩
  | 56 => ⟨S4x2048, .f32⟩
  | 57 => ⟨S4x2048x1, .f32⟩
  | 58 => ⟨S_, .f32⟩
  | 59 => ⟨S4x2048x1, .f32⟩
  | 60 => ⟨S4x2048x1, .f32⟩
  | 61 => ⟨S4x2048x256, .f32⟩
  | 62 => ⟨S4x2048x256, .f32⟩
  | 63 => ⟨S_, .f32⟩
  | 64 => ⟨S4x2048x1, .f32⟩
  | 65 => ⟨S4x2048x1, .f32⟩
  | 66 => ⟨S4x2048x1, .f32⟩
  | 67 => ⟨S4x2048x256, .f32⟩
  | 68 => ⟨S4x2048x256, .f32⟩
  | 69 => ⟨S1x1x256, .f32⟩
  | 70 => ⟨S4x2048x256, .f32⟩
  | 71 => ⟨S4x2048x256, .f32⟩
  | 72 => ⟨S1x1x256, .f32⟩
  | 73 => ⟨S4x2048x256, .f32⟩
  | 74 => ⟨S4x2048x256, .f32⟩
  | 75 => ⟨S8192x256, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S1x256x4, .f32⟩
  | 98 => ⟨S256x4, .f32⟩
  | 99 => ⟨S8192x4, .f32⟩
  | 100 => ⟨S_, .f32⟩
  | 101 => ⟨S8192, .f32⟩
  | 102 => ⟨S_, .f32⟩
  | 103 => ⟨S8192, .f32⟩
  | 104 => ⟨S8192, .f32⟩
  | 105 => ⟨S8192x1, .f32⟩
  | 106 => ⟨S8192x4, .f32⟩
  | 107 => ⟨S8192x4, .f32⟩
  | 108 => ⟨S8192x4, .f32⟩
  | 109 => ⟨S_, .f32⟩
  | 110 => ⟨S8192, .f32⟩
  | 111 => ⟨S8192x1, .f32⟩
  | 112 => ⟨S8192x4, .f32⟩
  | 113 => ⟨S8192x4, .f32⟩
  | 114 => ⟨S8192x3, .f32⟩
  | 115 => ⟨S8192x3, .i32⟩
  | 116 => ⟨S8192x2, .f32⟩
  | 117 => ⟨S8192x2, .i32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S8192x2, .f32⟩
  | 125 => ⟨S8192x2, .f32⟩
  | 126 => ⟨S_, .f32⟩
  | 127 => ⟨S8192x4, .f32⟩
  | _ => ⟨S4x2048x1024, .f32⟩

abbrev hbmTy0_1 (i : Nat) : BufTy := match i % 128 with
  | 0 => ⟨S8192, .i32⟩
  | 1 => ⟨S8192x1, .i32⟩
  | 2 => ⟨S_, .i32⟩
  | 3 => ⟨S8192x1, .i32⟩
  | 4 => ⟨S8192x1, .i1⟩
  | 5 => ⟨S_, .i32⟩
  | 6 => ⟨S8192x1, .i32⟩
  | 7 => ⟨S8192x1, .i32⟩
  | 8 => ⟨S8192x1, .i32⟩
  | 9 => ⟨S_, .i32⟩
  | 10 => ⟨S8192x2, .i32⟩
  | 11 => ⟨S8192x2, .i1⟩
  | 12 => ⟨S_, .i32⟩
  | 13 => ⟨S8192x2, .i32⟩
  | 14 => ⟨S8192x2, .i32⟩
  | 15 => ⟨S8192x2, .i32⟩
  | 16 => ⟨S8192x2, .i32⟩
  | 17 => ⟨S8192x2x1, .i32⟩
  | 18 => ⟨S8192x2x1, .i32⟩
  | 19 => ⟨S8192x2x2, .i32⟩
  | 20 => ⟨S8192x4, .f32⟩
  | 21 => ⟨S_, .f32⟩
  | 22 => ⟨S4, .f32⟩
  | 23 => ⟨S_, .f32⟩
  | 24 => ⟨S8192x4, .f32⟩
  | 25 => ⟨S8192x4, .i1⟩
  | 26 => ⟨S8192x4, .f32⟩
  | 27 => ⟨S_, .f32⟩
  | 28 => ⟨S4, .f32⟩
  | 29 => ⟨S_, .i32⟩
  | 30 => ⟨S_, .f32⟩
  | 31 => ⟨S_, .f32⟩
  | 32 => ⟨S1, .f32⟩
  | 33 => ⟨S_, .f32⟩
  | 34 => ⟨S1, .f32⟩
  | 35 => ⟨S1, .f32⟩
  | 36 => ⟨S4, .f32⟩
  | 37 => ⟨S4, .f32⟩
  | 38 => ⟨S4, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .i32⟩
  | 59 => ⟨S_, .f32⟩
  | 60 => ⟨S_, .f32⟩
  | 61 => ⟨S1, .f32⟩
  | 62 => ⟨S_, .f32⟩
  | 63 => ⟨S1, .f32⟩
  | 64 => ⟨S1, .f32⟩
  | 65 => ⟨S4, .f32⟩
  | 66 => ⟨S4, .f32⟩
  | 67 => ⟨S4, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .i1⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S4x32x8192, .f32⟩
  | 91 => ⟨S4x8192x32, .f32⟩
  | 92 => ⟨S4x1x32, .f32⟩
  | 93 => ⟨S4x8192x32, .f32⟩
  | 94 => ⟨S4x8192x32, .f32⟩
  | 95 => ⟨S_, .f32⟩
  | 96 => ⟨S4x8192x32, .f32⟩
  | 97 => ⟨S4x8192x32, .f32⟩
  | 98 => ⟨S4x8192x256, .f32⟩
  | 99 => ⟨S4x1x256, .f32⟩
  | 100 => ⟨S4x8192x256, .f32⟩
  | 101 => ⟨S4x8192x256, .f32⟩
  | 102 => ⟨S8192x256, .f32⟩
  | 103 => ⟨S4x2048x256, .f32⟩
  | 104 => ⟨S4x2048x128, .f32⟩
  | 105 => ⟨S4x2048x128, .f32⟩
  | 106 => ⟨S_, .f32⟩
  | 107 => ⟨S4x2048, .f32⟩
  | 108 => ⟨S4x2048x1, .f32⟩
  | 109 => ⟨S_, .f32⟩
  | 110 => ⟨S4x2048x1, .f32⟩
  | 111 => ⟨S4x2048x1, .f32⟩
  | 112 => ⟨S4x2048x1, .f32⟩
  | 113 => ⟨S4x2048x1, .f32⟩
  | 114 => ⟨S_, .f32⟩
  | 115 => ⟨S4x2048x1, .f32⟩
  | 116 => ⟨S4x2048x1, .f32⟩
  | 117 => ⟨S_, .f32⟩
  | 118 => ⟨S4x2048x1, .f32⟩
  | 119 => ⟨S4x2048x1, .f32⟩
  | 120 => ⟨S_, .f32⟩
  | 121 => ⟨S4x2048, .f32⟩
  | 122 => ⟨S4x2048x1, .f32⟩
  | 123 => ⟨S_, .f32⟩
  | 124 => ⟨S4x2048x1, .f32⟩
  | 125 => ⟨S4x2048x1, .f32⟩
  | 126 => ⟨S4x2048x1, .f32⟩
  | 127 => ⟨S4x2048x1, .f32⟩
  | _ => ⟨S4x2048x1024, .f32⟩

abbrev hbmTy0_2 (i : Nat) : BufTy := match i % 128 with
  | 0 => ⟨S_, .f32⟩
  | 1 => ⟨S4x2048x1, .f32⟩
  | 2 => ⟨S4x2048x1, .f32⟩
  | 3 => ⟨S_, .f32⟩
  | 4 => ⟨S4x2048x1, .f32⟩
  | 5 => ⟨S4x2048x1, .f32⟩
  | 6 => ⟨S4x2048x1024, .f32⟩
  | 7 => ⟨S4x2048x1024, .f32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S1x1024, .f32⟩
  | 26 => ⟨S1024, .f32⟩
  | 27 => ⟨S1x1x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S1x1024, .f32⟩
  | 50 => ⟨S1024, .f32⟩
  | 51 => ⟨S1x1x1024, .f32⟩
  | 52 => ⟨S4x2048x1024, .f32⟩
  | 53 => ⟨S4x2048x1024, .f32⟩
  | 54 => ⟨S_, .f32⟩
  | 55 => ⟨S4x2048x1024, .f32⟩
  | 56 => ⟨S4x2048x1024, .f32⟩
  | 57 => ⟨S_, .f32⟩
  | 58 => ⟨S4x2048x1024, .f32⟩
  | 59 => ⟨S4x2048x1024, .f32⟩
  | 60 => ⟨S4x2048x1024, .f32⟩
  | 61 => ⟨S8192x1024, .f32⟩
  | 62 => ⟨S1x1, .f32⟩
  | 63 => ⟨S8192x1024, .f32⟩
  | 64 => ⟨S8192x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_c_11 : Ref sig .tc := ⟨.hbm, 82, rfl⟩
abbrev main_v55 : Ref sig .tc := ⟨.hbm, 83, rfl⟩
abbrev main_c_12 : Ref sig .tc := ⟨.hbm, 84, rfl⟩
abbrev main_c_13 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_c_15 : Ref sig .tc := ⟨.hbm, 89, rfl⟩
abbrev main_c_16 : Ref sig .tc := ⟨.hbm, 90, rfl⟩
abbrev main_v58 : Ref sig .tc := ⟨.hbm, 91, rfl⟩
abbrev main_c_17 : Ref sig .tc := ⟨.hbm, 92, rfl⟩
abbrev main_c_18 : Ref sig .tc := ⟨.hbm, 93, rfl⟩
abbrev main_v59 : Ref sig .tc := ⟨.hbm, 94, rfl⟩
abbrev main_c_19 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_20 : Ref sig .tc := ⟨.hbm, 100, rfl⟩
abbrev main_v64 : Ref sig .tc := ⟨.hbm, 101, rfl⟩
abbrev main_cst_21 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_22 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_values : Ref sig .tc := ⟨.hbm, 114, rfl⟩
abbrev main_indices : Ref sig .tc := ⟨.hbm, 115, rfl⟩
abbrev main_v75 : Ref sig .tc := ⟨.hbm, 116, rfl⟩
abbrev main_v76 : Ref sig .tc := ⟨.hbm, 117, rfl⟩
abbrev main_cst_23 : Ref sig .tc := ⟨.hbm, 118, rfl⟩
abbrev main_v77 : Ref sig .tc := ⟨.hbm, 119, rfl⟩
abbrev main_v78 : Ref sig .tc := ⟨.hbm, 120, rfl⟩
abbrev main_cst_24 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_25 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_26 : Ref sig .tc := ⟨.hbm, 130, rfl⟩
abbrev main_v86 : Ref sig .tc := ⟨.hbm, 131, rfl⟩
abbrev main_v87 : Ref sig .tc := ⟨.hbm, 132, rfl⟩
abbrev main_c_27 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_28 : Ref sig .tc := ⟨.hbm, 137, rfl⟩
abbrev main_v91 : Ref sig .tc := ⟨.hbm, 138, rfl⟩
abbrev main_v92 : Ref sig .tc := ⟨.hbm, 139, rfl⟩
abbrev main_c_29 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_30 : Ref sig .tc := ⟨.hbm, 149, rfl⟩
abbrev main_v101 : Ref sig .tc := ⟨.hbm, 150, rfl⟩
abbrev main_cst_31 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_32 : Ref sig .tc := ⟨.hbm, 155, rfl⟩
abbrev main_v105 : Ref sig .tc := ⟨.hbm, 156, rfl⟩
abbrev main_c_33 : Ref sig .tc := ⟨.hbm, 157, rfl⟩
abbrev main_call0_cst : Ref sig .tc := ⟨.hbm, 158, rfl⟩
abbrev main_call0_v0 : Ref sig .tc := ⟨.hbm, 159, rfl⟩
abbrev main_call0_v1 : Ref sig .tc := ⟨.hbm, 160, rfl⟩
abbrev main_call0_cst_0 : Ref sig .tc := ⟨.hbm, 161, rfl⟩
abbrev main_call0_v2 : Ref sig .tc := ⟨.hbm, 162, rfl⟩
abbrev main_call0_v3 : Ref sig .tc := ⟨.hbm, 163, rfl⟩
abbrev main_call0_v4 : Ref sig .tc := ⟨.hbm, 164, rfl⟩
abbrev main_call0_v5 : Ref sig .tc := ⟨.hbm, 165, rfl⟩
abbrev main_call0_v6 : Ref sig .tc := ⟨.hbm, 166, rfl⟩
abbrev main_call0_v7 : Ref sig .tc := ⟨.hbm, 167, rfl⟩
abbrev main_call0_cst_1 : Ref sig .tc := ⟨.hbm, 168, rfl⟩
abbrev main_call0_v8 : Ref sig .tc := ⟨.hbm, 169, rfl⟩
abbrev main_call0_cst_2 : Ref sig .tc := ⟨.hbm, 170, rfl⟩
abbrev main_call0_v9 : Ref sig .tc := ⟨.hbm, 171, rfl⟩
abbrev main_call0_v10 : Ref sig .tc := ⟨.hbm, 172, rfl⟩
abbrev main_call0_cst_3 : Ref sig .tc := ⟨.hbm, 173, rfl⟩
abbrev main_call0_v11 : Ref sig .tc := ⟨.hbm, 174, rfl⟩
abbrev main_call0_cst_4 : Ref sig .tc := ⟨.hbm, 175, rfl⟩
abbrev main_call0_call0_v0 : Ref sig .tc := ⟨.hbm, 176, rfl⟩
abbrev main_v106 : Ref sig .tc := ⟨.hbm, 177, rfl⟩
abbrev main_cst_34 : Ref sig .tc := ⟨.hbm, 178, rfl⟩
abbrev main_v107 : Ref sig .tc := ⟨.hbm, 179, rfl⟩
abbrev main_cst_35 : Ref sig .tc := ⟨.hbm, 180, rfl⟩
abbrev main_v108 : Ref sig .tc := ⟨.hbm, 181, rfl⟩
abbrev main_v109 : Ref sig .tc := ⟨.hbm, 182, rfl⟩
abbrev main_cst_36 : Ref sig .tc := ⟨.hbm, 183, rfl⟩
abbrev main_v110 : Ref sig .tc := ⟨.hbm, 184, rfl⟩
abbrev main_v111 : Ref sig .tc := ⟨.hbm, 185, rfl⟩
abbrev main_c_37 : Ref sig .tc := ⟨.hbm, 186, rfl⟩
abbrev main_call1_cst : Ref sig .tc := ⟨.hbm, 187, rfl⟩
abbrev main_call1_v0 : Ref sig .tc := ⟨.hbm, 188, rfl⟩
abbrev main_call1_v1 : Ref sig .tc := ⟨.hbm, 189, rfl⟩
abbrev main_call1_cst_0 : Ref sig .tc := ⟨.hbm, 190, rfl⟩
abbrev main_call1_v2 : Ref sig .tc := ⟨.hbm, 191, rfl⟩
abbrev main_call1_v3 : Ref sig .tc := ⟨.hbm, 192, rfl⟩
abbrev main_call1_v4 : Ref sig .tc := ⟨.hbm, 193, rfl⟩
abbrev main_call1_v5 : Ref sig .tc := ⟨.hbm, 194, rfl⟩
abbrev main_call1_v6 : Ref sig .tc := ⟨.hbm, 195, rfl⟩
abbrev main_call1_v7 : Ref sig .tc := ⟨.hbm, 196, rfl⟩
abbrev main_call1_cst_1 : Ref sig .tc := ⟨.hbm, 197, rfl⟩
abbrev main_call1_v8 : Ref sig .tc := ⟨.hbm, 198, rfl⟩
abbrev main_call1_cst_2 : Ref sig .tc := ⟨.hbm, 199, rfl⟩
abbrev main_call1_v9 : Ref sig .tc := ⟨.hbm, 200, rfl⟩
abbrev main_call1_v10 : Ref sig .tc := ⟨.hbm, 201, rfl⟩
abbrev main_call1_cst_3 : Ref sig .tc := ⟨.hbm, 202, rfl⟩
abbrev main_call1_v11 : Ref sig .tc := ⟨.hbm, 203, rfl⟩
abbrev main_call1_cst_4 : Ref sig .tc := ⟨.hbm, 204, rfl⟩
abbrev main_call1_call0_v0 : Ref sig .tc := ⟨.hbm, 205, rfl⟩
abbrev main_v112 : Ref sig .tc := ⟨.hbm, 206, rfl⟩
abbrev main_cst_38 : Ref sig .tc := ⟨.hbm, 207, rfl⟩
abbrev main_v113 : Ref sig .tc := ⟨.hbm, 208, rfl⟩
abbrev main_cst_39 : Ref sig .tc := ⟨.hbm, 209, rfl⟩
abbrev main_v114 : Ref sig .tc := ⟨.hbm, 210, rfl⟩
abbrev main_v115 : Ref sig .tc := ⟨.hbm, 211, rfl⟩
abbrev main_cst_40 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_cst_41 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_call2_cst : Ref sig .tc := ⟨.hbm, 223, rfl⟩
abbrev main_call2_v0 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_cst_42 : Ref sig .tc := ⟨.hbm, 234, rfl⟩
abbrev main_v134 : Ref sig .tc := ⟨.hbm, 235, rfl⟩
abbrev main_v135 : Ref sig .tc := ⟨.hbm, 236, rfl⟩
abbrev main_cst_43 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_cst_44 : Ref sig .tc := ⟨.hbm, 242, rfl⟩
abbrev main_v140 : Ref sig .tc := ⟨.hbm, 243, rfl⟩
abbrev main_v141 : Ref sig .tc := ⟨.hbm, 244, rfl⟩
abbrev main_cst_45 : Ref sig .tc := ⟨.hbm, 245, rfl⟩
abbrev main_v142 : Ref sig .tc := ⟨.hbm, 246, rfl⟩
abbrev main_v143 : Ref sig .tc := ⟨.hbm, 247, rfl⟩
abbrev main_cst_46 : Ref sig .tc := ⟨.hbm, 248, rfl⟩
abbrev main_v144 : Ref sig .tc := ⟨.hbm, 249, rfl⟩
abbrev main_v145 : Ref sig .tc := ⟨.hbm, 250, rfl⟩
abbrev main_cst_47 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_cst_48 : Ref sig .tc := ⟨.hbm, 256, rfl⟩
abbrev main_v150 : Ref sig .tc := ⟨.hbm, 257, rfl⟩
abbrev main_v151 : Ref sig .tc := ⟨.hbm, 258, rfl⟩
abbrev main_cst_49 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_c_50 : Ref sig .tc := ⟨.hbm, 264, rfl⟩
abbrev main_v156 : Ref sig .tc := ⟨.hbm, 265, rfl⟩
abbrev main_c_51 : Ref sig .tc := ⟨.hbm, 266, rfl⟩
abbrev main_v157 : Ref sig .tc := ⟨.hbm, 267, rfl⟩
abbrev main_c_52 : Ref sig .tc := ⟨.hbm, 268, rfl⟩
abbrev main_v158 : Ref sig .tc := ⟨.hbm, 269, rfl⟩
abbrev main_c_53 : Ref sig .tc := ⟨.hbm, 270, rfl⟩
abbrev main_v159 : Ref sig .tc := ⟨.hbm, 271, rfl⟩
abbrev main_v160 : Ref sig .tc := ⟨.hbm, 272, rfl⟩
abbrev main_c_54 : Ref sig .tc := ⟨.hbm, 273, rfl⟩
abbrev main_c_55 : Ref sig .tc := ⟨.hbm, 274, rfl⟩
abbrev main_v161 : Ref sig .tc := ⟨.hbm, 275, rfl⟩
abbrev main_c_56 : Ref sig .tc := ⟨.hbm, 276, rfl⟩
abbrev main_c_57 : Ref sig .tc := ⟨.hbm, 277, rfl⟩
abbrev main_v162 : Ref sig .tc := ⟨.hbm, 278, rfl⟩
abbrev main_c_58 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_c_59 : Ref sig .tc := ⟨.hbm, 288, rfl⟩
abbrev main_v171 : Ref sig .tc := ⟨.hbm, 289, rfl⟩
abbrev main_c_60 : Ref sig .tc := ⟨.hbm, 290, rfl⟩
abbrev main_v172 : Ref sig .tc := ⟨.hbm, 291, rfl⟩
abbrev main_c_61 : Ref sig .tc := ⟨.hbm, 292, rfl⟩
abbrev main_v173 : Ref sig .tc := ⟨.hbm, 293, rfl⟩
abbrev main_c_62 : Ref sig .tc := ⟨.hbm, 294, rfl⟩
abbrev main_v174 : Ref sig .tc := ⟨.hbm, 295, rfl⟩
abbrev main_v175 : Ref sig .tc := ⟨.hbm, 296, rfl⟩
abbrev main_c_63 : Ref sig .tc := ⟨.hbm, 297, rfl⟩
abbrev main_c_64 : Ref sig .tc := ⟨.hbm, 298, rfl⟩
abbrev main_v176 : Ref sig .tc := ⟨.hbm, 299, rfl⟩
abbrev main_c_65 : Ref sig .tc := ⟨.hbm, 300, rfl⟩
abbrev main_c_66 : Ref sig .tc := ⟨.hbm, 301, rfl⟩
abbrev main_v177 : Ref sig .tc := ⟨.hbm, 302, rfl⟩
abbrev main_c_67 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_cst_68 : Ref sig .tc := ⟨.hbm, 310, rfl⟩
abbrev main_v184 : Ref sig .tc := ⟨.hbm, 311, rfl⟩
abbrev main_v185 : Ref sig .tc := ⟨.hbm, 312, rfl⟩
abbrev main_cst_69 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩

abbrev nD : Nat := 1
abbrev τ : Topo := Topo.v7x

variable {F : FTy → Type} [FloatOps F]
-- ==== Proof.KCase.lean ====
/-
What the kernel's body leaves in each result block and in each of the two carried accumulators, in each of its three
cases (first point, middle point, last point), as one composition of the body's named values of the input blocks.
-/
module

public import proofs.«01_k».proof.Proof.Gen.KernelIdeal.Value

@[expose] public section

set_option maxRecDepth 16384

noncomputable section

namespace Cert.KCase

open Idealize.ShloMosaic Idealize.ShloMosaic.TcCoe Idealize.ShloMosaic.Tactic
open Cert.KernelIdeal Cert.KernelIdeal.Gen

variable {F : FTy → Type} [FloatOps F] [Named F]

theorem hz : (![0, 0] : Fin 2 → Nat) = fun _ => 0 := funext fun a => by fin_cases a <;> rfl

section Blocks

variable (x0 x1 : Vec F S1024x1024 .f32) (x2 x3 : Vec F S1024x256 .f32) (x4 x5 : Vec F S256x128 .f32)
variable (x6 x7 : Vec F S1x128 .f32) (x8 x9 : Vec F S1x1024 .f32)

/-- The centred projection of the concatenated rows. -/
def kz : FVec F S1024x256 .f32 := k0_pay9 (k0_pay7 x0 x1 x2 x3) (k0_pay8 x0 x1 x2 x3)
/-- The mask of the two chosen lanes. -/
def km : IVec S1024x128 1 := k0_pay11 (k0_pay7 x0 x1 x2 x3) (k0_pay8 x0 x1 x2 x3) x4
/-- The gates per lane. -/
def kg : FVec F S1024x128 .f32 := k0_pay12 (k0_pay7 x0 x1 x2 x3) (k0_pay8 x0 x1 x2 x3) x4
/-- The gated hidden lanes. -/
def kh : FVec F S1024x128 .f32 := k0_pay13 (kz x0 x1 x2 x3) (kg x0 x1 x2 x3 x4) x5
/-- The first scale of each row. -/
def ks : FVec F S1024x1 .f32 := k0_pay18 (kz x0 x1 x2 x3) (kg x0 x1 x2 x3 x4) x5 x6
/-- The first scaled and shifted block. -/
def kx : FVec F S1024x1024 .f32 := k0_pay1 (k0_pay5 x0) (ks x0 x1 x2 x3 x4 x5 x6) x8
/-- The second scaled and shifted block. -/
def kt : FVec F S1024x1024 .f32 := k0_pay2 (k0_pay6 x1) (kh x0 x1 x2 x3 x4 x5) (k0_pay19 x7) x9
/-- The mean of the two. -/
def kout : FVec F S1024x1024 .f32 :=
  k0_pay3 (k0_pay5 x0) (k0_pay6 x1) (kh x0 x1 x2 x3 x4 x5) (ks x0 x1 x2 x3 x4 x5 x6) (k0_pay19 x7) x8 x9

end Blocks

theorem out0_A_10_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 :
    out0_A_10 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9
      = kout x0 x1 x2 x3 x4 x5 x6 x7 x8 x9 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9)]
  unfold kernelRun0_A
  dsimp only
  sl_unfold_words
  first
    | rw [View.canon_unit_zero hz]
    | rw [View.canon_cons_unit_zero (S := S1024x1024) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem out0_A_12_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 :
    out0_A_12 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9
      = kx x0 x1 x2 x3 x4 x5 x6 x8 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9)]
  unfold kernelRun0_A
  dsimp only
  sl_unfold_words
  first
    | rw [View.canon_unit_zero hz]
    | rw [View.canon_cons_unit_zero (S := S1024x1024) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem out0_A_13_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 :
    out0_A_13 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9
      = kt x0 x1 x2 x3 x4 x5 x7 x9 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9)]
  unfold kernelRun0_A
  dsimp only
  sl_unfold_words
  first
    | rw [View.canon_unit_zero hz]
    | rw [View.canon_cons_unit_zero (S := S1024x1024) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem sout0_A_0_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 :
    sout0_A_0 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9
      = k0_pay16 (kg x0 x1 x2 x3 x4) (k0_pay14 (F := F)) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9)]
  unfold kernelRun0_A
  dsimp only
  sl_unfold_words
  first
    | rw [View.canon_unit_zero hz]
    | rw [View.canon_cons_unit_zero (S := S1x128) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem sout0_A_1_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 :
    sout0_A_1 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9
      = k0_pay17 (km x0 x1 x2 x3 x4) (k0_pay15 (F := F)) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9)]
  unfold kernelRun0_A
  dsimp only
  sl_unfold_words
  first
    | rw [View.canon_unit_zero hz]
    | rw [View.canon_cons_unit_zero (S := S1x128) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem out0_B_10_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    out0_B_10 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = kout x0 x1 x2 x3 x4 x5 x6 x7 x8 x9 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_B
  dsimp only
  sl_unfold_words
  first
    | rw [View.canon_unit_zero hz]
    | rw [View.canon_cons_unit_zero (S := S1024x1024) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem out0_B_12_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    out0_B_12 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = kx x0 x1 x2 x3 x4 x5 x6 x8 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_B
  dsimp only
  sl_unfold_words
  first
    | rw [View.canon_unit_zero hz]
    | rw [View.canon_cons_unit_zero (S := S1024x1024) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem out0_B_13_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    out0_B_13 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = kt x0 x1 x2 x3 x4 x5 x7 x9 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_B
  dsimp only
  sl_unfold_words
  first
    | rw [View.canon_unit_zero hz]
    | rw [View.canon_cons_unit_zero (S := S1024x1024) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem sout0_B_0_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    sout0_B_0 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = k0_pay16 (kg x0 x1 x2 x3 x4) s0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_B
  dsimp only
  sl_unfold_words
  first
    | rw [View.canon_unit_zero hz]
    | rw [View.canon_cons_unit_zero (S := S1x128) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem sout0_B_1_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    sout0_B_1 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = k0_pay17 (km x0 x1 x2 x3 x4) s1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_B
  dsimp only
  sl_unfold_words
  first
    | rw [View.canon_unit_zero hz]
    | rw [View.canon_cons_unit_zero (S := S1x128) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem out0_C_10_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    out0_C_10 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = kout x0 x1 x2 x3 x4 x5 x6 x7 x8 x9 := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_C
  dsimp only
  sl_unfold_words
  first
    | rw [View.canon_unit_zero hz]
    | rw [View.canon_cons_unit_zero (S := S1024x1024) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem out0_C_12_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    out0_C_12 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = kx x0 x1 x2 x3 x4 x5 x6 x8 := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_C
  dsimp only
  sl_unfold_words
  first
    | rw [View.canon_unit_zero hz]
    | rw [View.canon_cons_unit_zero (S := S1024x1024) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem out0_C_13_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    out0_C_13 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = kt x0 x1 x2 x3 x4 x5 x7 x9 := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_C
  dsimp only
  sl_unfold_words
  first
    | rw [View.canon_unit_zero hz]
    | rw [View.canon_cons_unit_zero (S := S1024x1024) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem sout0_C_0_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    sout0_C_0 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = k0_pay16 (kg x0 x1 x2 x3 x4) s0 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_C
  dsimp only
  sl_unfold_words
  first
    | rw [View.canon_unit_zero hz]
    | rw [View.canon_cons_unit_zero (S := S1x128) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem sout0_C_1_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    sout0_C_1 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = k0_pay17 (km x0 x1 x2 x3 x4) s1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_C
  dsimp only
  sl_unfold_words
  first
    | rw [View.canon_unit_zero hz]
    | rw [View.canon_cons_unit_zero (S := S1x128) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

theorem out0_C_11_eq c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1 :
    out0_C_11 (F := F) c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1
      = k0_pay4 (k0_pay16 (kg x0 x1 x2 x3 x4) s0) (k0_pay17 (km x0 x1 x2 x3 x4) s1) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 s0 s1)]
  unfold kernelRun0_C
  dsimp only
  sl_unfold_words
  first
    | rw [View.canon_unit_zero hz]
    | rw [View.canon_cons_unit_zero (S := S1x1) hz]
  try rw [View.readCov_unit_zero (S := S1x128) _ hz]
  try rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz,
    View.ld_unit_zero (S := S1024x256) hz, View.ld_unit_zero (S := S256x128) hz, View.ld_unit_zero (S := S1x128) hz,
    View.ld_unit_zero (S := S1x1024) hz, View.ld_unit_zero (S := S1x1) hz]
  rfl

end Cert.KCase

end
-- ==== Proof.Consts.lean ====
/-
  The float constants which the two programs spell, as the real numbers their patterns denote at `Ideal`, and the
  small facts about real numbers inside the extended reals which both sides use.
-/
module

public import Idealize.ShloMosaic.PureOps.Ideal

@[expose] public section

noncomputable section

namespace Cert.Consts

open Idealize.ShloMosaic

/-- The variance offset of both layer norms (about 1e-5). -/
def eps5 : ℝ := 10995116 / 2 ^ 40
/-- The offset of the gate's denominator (about 1e-6). -/
def eps6 : ℝ := 8796093 / 2 ^ 43
/-- The offset of the squared mean in the balance loss (about 1e-10). -/
def eps10 : ℝ := 14411519 / 2 ^ 57
/-- The weight of the balance loss (about 0.01). -/
def cent : ℝ := 10737418 / 2 ^ 30

theorem eps5_pos : 0 < eps5 := by unfold eps5; positivity
theorem eps6_pos : 0 < eps6 := by unfold eps6; positivity
theorem eps10_pos : 0 < eps10 := by unfold eps10; positivity

theorem bits_zero : Ideal.ofBits .f32 0x00000000#32 = ((0 : ℝ) : EReal) := by
  simp [Ideal.ofBits, Ideal.ieee]
theorem bits_one : Ideal.ofBits .f32 0x3F800000#32 = ((1 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_4 : Ideal.ofBits .f32 0x40800000#32 = ((4 : ℝ) : EReal) := by
  simp [Ideal.ofBits, Ideal.ieee, -EReal.coe_mul]; norm_num
theorem bits_3 : Ideal.ofBits .f32 0x40400000#32 = ((3 : ℝ) : EReal) := by
  simp [Ideal.ofBits, Ideal.ieee, -EReal.coe_mul]; norm_num
theorem bits_32 : Ideal.ofBits .f32 0x42000000#32 = ((32 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_2048 : Ideal.ofBits .f32 0x45000000#32 = ((2048 : ℝ) : EReal) := by
  simp [Ideal.ofBits, Ideal.ieee, -EReal.coe_mul]; norm_num
theorem bits_inv128 : Ideal.ofBits .f32 0x3C000000#32 = ((1 / 128 : ℝ) : EReal) := by
  simp [Ideal.ofBits, Ideal.ieee, -EReal.coe_mul]; norm_num
theorem bits_inv2048 : Ideal.ofBits .f32 0x3A000000#32 = ((1 / 2048 : ℝ) : EReal) := by
  simp [Ideal.ofBits, Ideal.ieee, -EReal.coe_mul]; norm_num
theorem bits_eps5 : Ideal.ofBits .f32 0x3727C5AC#32 = (eps5 : EReal) := by
  simp [Ideal.ofBits, Ideal.ieee, -EReal.coe_mul, eps5]; norm_num
theorem bits_eps6 : Ideal.ofBits .f32 0x358637BD#32 = (eps6 : EReal) := by
  simp [Ideal.ofBits, Ideal.ieee, -EReal.coe_mul, eps6]; norm_num
theorem bits_eps10 : Ideal.ofBits .f32 0x2EDBE6FF#32 = (eps10 : EReal) := by
  simp [Ideal.ofBits, Ideal.ieee, -EReal.coe_mul, eps10]; norm_num
theorem bits_cent : Ideal.ofBits .f32 0x3C23D70A#32 = (cent : EReal) := by
  simp [Ideal.ofBits, Ideal.ieee, -EReal.coe_mul, cent]; norm_num
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]

/-- A finite sum of reals, taken in the extended reals, is the real sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- The quotient of reals, the divisor not zero. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_real {r : ℝ} (h : 0 < r) : Ideal.rsqrt (r : EReal) = ((1 / √r : ℝ) : EReal) := by
  rw [Ideal.rsqrt_coe, if_neg (not_lt.mpr h.le), if_neg h.ne', one_div]

/-- The root of a real that is not negative. -/
theorem sqrt_real {r : ℝ} (h : 0 ≤ r) : Ideal.sqrt (r : EReal) = ((√r : ℝ) : EReal) := by
  rw [Ideal.sqrt_coe, if_neg (not_lt.mpr h)]

/-- The larger of two reals. -/
theorem max_real (a b : ℝ) : max (a : EReal) (b : EReal) = ((max a b : ℝ) : EReal) :=
  (Monotone.map_max (fun _ _ h => EReal.coe_le_coe_iff.mpr h)).symm

/-- A maximum over a family is the value that is attained and bounds the rest. -/
theorem fold_max {ι : Type*} [Fintype ι] (f : ι → EReal) (c : EReal) (i : ι) (hi : f i = c) (h : ∀ j, f j ≤ c) :
    Finset.univ.fold max ⊥ f = c := by
  apply le_antisymm
  · rw [Finset.fold_max_le]; exact ⟨bot_le, fun j _ => h j⟩
  · rw [Finset.le_fold_max]; exact Or.inr ⟨i, Finset.mem_univ _, hi.ge⟩

/-! ## Infinite entries -/

theorem sum_bot {ι : Type*} [Fintype ι] (v : ι → EReal) {k : ι} (h : v k = ⊥) : ∑ j, v j = ⊥ := by
  classical
  rw [← Finset.add_sum_erase _ _ (Finset.mem_univ k), h, EReal.bot_add]

theorem sum_top_of {ι : Type*} [Fintype ι] (v : ι → EReal) {k : ι} (h : v k = ⊤) (hb : ∀ j, v j ≠ ⊥) : ∑ j, v j = ⊤ := by
  classical
  have hn : ∀ s : Finset ι, ∑ j ∈ s, v j ≠ ⊥ := fun s => by
    induction s using Finset.induction_on with
    | empty => simp
    | insert a s ha ih =>
      rw [Finset.sum_insert ha]
      exact fun e => (EReal.add_eq_bot_iff.mp e).elim (hb a) ih
  rw [← Finset.add_sum_erase _ _ (Finset.mem_univ k), h, EReal.top_add_of_ne_bot (hn _)]

theorem sum_top {ι : Type*} [Fintype ι] [Nonempty ι] : ∑ _j : ι, (⊤ : EReal) = ⊤ :=
  sum_top_of (fun _ => ⊤) (k := Classical.arbitrary ι) rfl fun _ => by simp

/-- When one entry is infinite, every entry lies infinitely far from the mean. -/
theorem spread {ι : Type*} [Fintype ι] (v : ι → EReal) {c : ℝ} (hc : 0 < c) (h : ∃ k, ¬(∃ q : ℝ, v k = (q : EReal))) (k : ι) :
    (v k - (∑ j, v j) * (c : EReal)) * (v k - (∑ j, v j) * (c : EReal)) = ⊤ := by
  have hd : v k - (∑ j, v j) * (c : EReal) = ⊤ ∨ v k - (∑ j, v j) * (c : EReal) = ⊥ := by
    by_cases hb : ∃ j, v j = ⊥
    · obtain ⟨j, hj⟩ := hb
      rw [sum_bot v hj, EReal.bot_mul_coe_of_pos hc]
      by_cases hk : v k = ⊥
      · exact Or.inr (by rw [hk, sub_eq_add_neg, EReal.bot_add])
      · exact Or.inl (by rw [sub_eq_add_neg, EReal.neg_bot, EReal.add_top_of_ne_bot hk])
    · rw [not_exists] at hb
      obtain ⟨j, hj⟩ := h
      have ht : v j = ⊤ := by
        by_contra hn
        exact hj ⟨_, (EReal.coe_toReal hn (hb j)).symm⟩
      rw [sum_top_of v ht hb, EReal.top_mul_coe_of_pos hc]
      exact Or.inr (EReal.sub_top _)
  rcases hd with e | e <;> rw [e]
  · exact EReal.top_mul_top
  · exact EReal.bot_mul_bot

theorem top_eps (e : ℝ) : Ideal.sqrt (⊤ + (e : EReal)) = ⊤ := by
  rw [EReal.top_add_coe]
  rfl

theorem div_top (x : EReal) : Ideal.div x ⊤ = 0 := by
  unfold Ideal.div
  rw [if_neg (by simp), EReal.inv_top, mul_zero]

/-- A softmax over four extended reals: all equal, or, when the logits' exponentials are real numbers, these over their sum. -/
theorem soft (l : Fin 4 → EReal) :
    (∃ q, ∀ e, Ideal.div (Ideal.exp (l e - Finset.univ.fold max ⊥ l)) (∑ k, Ideal.exp (l k - Finset.univ.fold max ⊥ l)) = q)
    ∨ ∃ (u : Fin 4 → ℝ) (s : ℝ), 0 < s ∧ (∀ e, 0 ≤ u e) ∧ 0 < ∑ e, u e ∧ (∀ e, Ideal.exp (l e) = ((u e : ℝ) : EReal))
      ∧ ∀ e, Ideal.div (Ideal.exp (l e - Finset.univ.fold max ⊥ l)) (∑ k, Ideal.exp (l k - Finset.univ.fold max ⊥ l))
        = ((u e * s / ∑ k, u k * s : ℝ) : EReal) := by
  obtain ⟨i, hi⟩ := Finite.exists_max l
  rw [fold_max l (l i) i rfl hi]
  by_cases ht : l i = ⊤
  · refine Or.inl ⟨Ideal.div (Ideal.exp ⊥) (∑ k : Fin 4, Ideal.exp ⊥), fun e => ?_⟩
    simp only [ht, EReal.sub_top]
  by_cases hb : l i = ⊥
  · refine Or.inl ⟨Ideal.div (Ideal.exp (⊥ - ⊥)) (∑ k : Fin 4, Ideal.exp (⊥ - ⊥)), fun e => ?_⟩
    have : ∀ e, l e = ⊥ := fun e => le_bot_iff.mp (hb ▸ hi e)
    simp only [this]
  refine Or.inr ⟨fun e => EReal.toReal (Ideal.exp (l e)), Real.exp (-(l i).toReal), Real.exp_pos _, ?_⟩
  have hc : l i = (((l i).toReal : ℝ) : EReal) := (EReal.coe_toReal ht hb).symm
  generalize (l i).toReal = c at hc
  rw [hc]
  have key : ∀ e, ∃ v : ℝ, 0 ≤ v ∧ Ideal.exp (l e) = (v : EReal) ∧ Ideal.exp (l e - (c : EReal)) = ((v * Real.exp (-c) : ℝ) : EReal) := fun e => by
    by_cases he : l e = ⊥
    · refine ⟨0, le_refl _, ?_, ?_⟩
      · rw [he]; rfl
      · rw [he, sub_eq_add_neg, EReal.bot_add, zero_mul]; rfl
    · have hn : l e ≠ ⊤ := fun q => ht (top_le_iff.mp (q ▸ hi e))
      have hr : l e = (((l e).toReal : ℝ) : EReal) := (EReal.coe_toReal hn he).symm
      refine ⟨Real.exp (l e).toReal, (Real.exp_pos _).le, ?_, ?_⟩
      · conv_lhs => rw [hr]
        exact Ideal.exp_coe _
      · conv_lhs => rw [hr]
        rw [← EReal.coe_sub, Ideal.exp_coe, sub_eq_add_neg, Real.exp_add]
  choose v h0 h1 h2 using key
  have hu : ∀ e, EReal.toReal (Ideal.exp (l e)) = v e := fun e => by rw [h1, EReal.toReal_coe]
  simp only [hu]
  have hp : 0 < ∑ e, v e := Finset.sum_pos' (fun e _ => h0 e) ⟨i, Finset.mem_univ _, by
    have := h1 i
    rw [hc, Ideal.exp_coe] at this
    rw [← EReal.coe_eq_coe_iff.mp this]
    exact Real.exp_pos _⟩
  refine ⟨h0, hp, h1, fun e => ?_⟩
  simp only [h2, sum_coe]
  rw [div_real]
  rw [← Finset.sum_mul]
  exact (mul_pos hp (Real.exp_pos _)).ne'

end Cert.Consts

end
-- ==== Proof.Model.lean ====
/-
  What both programs compute for one token, and the identities between the two ways of writing it (variance from the
  mean of squares, lanes repeated 32 times, means moved through sums). Data, normalized tokens, gates and hidden units
  are real numbers; the weights `w`, `g` and `f2` may be infinite.
-/
module

public import proofs.«01_k».proof.Proof.Consts

@[expose] public section

noncomputable section

namespace Cert.Model

open Idealize.ShloMosaic Cert.Consts

/-! ## The first layer norm, over the two halves of a token -/

def mu1 (x t : Fin 1024 → ℝ) : ℝ := (∑ k, x k + ∑ k, t k) / 2048
def var1 (x t : Fin 1024 → ℝ) : ℝ :=
  (∑ k, (x k - mu1 x t) * (x k - mu1 x t) + ∑ k, (t k - mu1 x t) * (t k - mu1 x t)) / 2048
def n1 (x t : Fin 1024 → ℝ) (v : ℝ) : ℝ := (v - mu1 x t) / √(var1 x t + eps5)
/-- The reduced token. -/
def yv (x t : Fin 1024 → ℝ) (wx wt : Fin 256 → Fin 1024 → EReal) (o : Fin 256) : EReal :=
  ∑ k, ((n1 x t (x k) : ℝ) : EReal) * wx o k + ∑ k, ((n1 x t (t k) : ℝ) : EReal) * wt o k

theorem var1_nonneg (x t : Fin 1024 → ℝ) : 0 ≤ var1 x t := by
  unfold var1
  exact div_nonneg (add_nonneg (Finset.sum_nonneg fun k _ => mul_self_nonneg _) (Finset.sum_nonneg fun k _ => mul_self_nonneg _)) (by norm_num)

theorem var1_pos (x t : Fin 1024 → ℝ) : 0 < var1 x t + eps5 := add_pos_of_nonneg_of_pos (var1_nonneg x t) eps5_pos

/-- A sum of squared differences from a number. -/
theorem sum_sq {n : ℕ} (x : Fin n → ℝ) (m : ℝ) :
    ∑ k, (x k - m) * (x k - m) = ∑ k, x k * x k - 2 * m * ∑ k, x k + n * (m * m) := by
  have : ∀ k, (x k - m) * (x k - m) = x k * x k - 2 * m * x k + m * m := fun k => by ring
  simp only [this, Finset.sum_add_distrib, Finset.sum_sub_distrib, ← Finset.mul_sum, Finset.sum_const, Finset.card_univ,
    Fintype.card_fin, nsmul_eq_mul]
  ring

/-- The variance is the mean of squares less the squared mean. -/
theorem var1_alt (x t : Fin 1024 → ℝ) :
    (∑ k, x k * x k + ∑ k, t k * t k) * (1 / 2048) - mu1 x t * mu1 x t = var1 x t := by
  unfold var1
  rw [sum_sq, sum_sq]
  have h : ∑ k, x k + ∑ k, t k = 2048 * mu1 x t := by unfold mu1; ring
  have h' : ∑ k, t k = 2048 * mu1 x t - ∑ k, x k := by linarith
  rw [h']
  push_cast
  ring

/-! ## The second layer norm -/

def mu2 (y : Fin 256 → ℝ) : ℝ := (∑ k, y k) / 256
def var2 (y : Fin 256 → ℝ) : ℝ := (∑ k, (y k - mu2 y) * (y k - mu2 y)) / 256
def zv (y : Fin 256 → ℝ) (o : Fin 256) : ℝ := (y o - mu2 y) / √(var2 y + eps5)

theorem var2_nonneg (y : Fin 256 → ℝ) : 0 ≤ var2 y := by
  unfold var2
  exact div_nonneg (Finset.sum_nonneg fun k _ => mul_self_nonneg _) (by norm_num)

theorem var2_pos (y : Fin 256 → ℝ) : 0 < var2 y + eps5 := add_pos_of_nonneg_of_pos (var2_nonneg y) eps5_pos

theorem var2_alt (y : Fin 256 → ℝ) : (∑ k, y k * y k) / 256 - mu2 y * mu2 y = var2 y := by
  unfold var2
  rw [sum_sq]
  have h : ∑ k, y k = 256 * mu2 y := by unfold mu2; ring
  rw [h]
  push_cast
  ring

/-! ## The gate -/

/-- The logit of expert `e`. -/
def lg (g : Fin 256 → Fin 4 → EReal) (z : Fin 256 → ℝ) (e : Fin 4) : EReal := ∑ k, ((z k : ℝ) : EReal) * g k e

/-- Of the exponentials `u` of the logits, `a` has the largest and `b` the next, both strictly. -/
structure Top2 (u : Fin 4 → ℝ) (a b : Fin 4) : Prop where
  nonneg : ∀ e, 0 ≤ u e
  pos : 0 < u b
  lt : u b < u a
  rest : ∀ e, e ≠ a → e ≠ b → u e < u b

def den (u : Fin 4 → ℝ) (a b : Fin 4) : ℝ := u a + u b + eps6 * ∑ e, u e
/-- The gate of expert `e` when `a` and `b` are chosen. -/
def gate (u : Fin 4 → ℝ) (a b e : Fin 4) : ℝ := if e = a ∨ e = b then u e / den u a b else 0
/-- One for a chosen expert. -/
def sel (a b e : Fin 4) : ℝ := if e = a ∨ e = b then 1 else 0

namespace Top2

variable {u : Fin 4 → ℝ} {a b : Fin 4} (h : Top2 u a b)

include h

theorem ne : b ≠ a := fun e => by
  have := h.lt; rw [e] at this; exact lt_irrefl _ this

theorem le (e : Fin 4) : u e ≤ u a := by
  by_cases ha : e = a
  · rw [ha]
  · by_cases hb : e = b
    · rw [hb]; exact h.lt.le
    · exact ((h.rest e ha hb).trans h.lt).le

theorem le_b {e : Fin 4} (ha : e ≠ a) : u e ≤ u b := by
  by_cases hb : e = b
  · rw [hb]
  · exact (h.rest e ha hb).le

/-- At least the second largest is one of the two. -/
theorem ge_iff (e : Fin 4) : u b ≤ u e ↔ (e = a ∨ e = b) := by
  constructor
  · intro hl
    by_contra hn
    rw [not_or] at hn
    exact absurd (h.rest e hn.1 hn.2) (not_lt.mpr hl)
  · rintro (rfl | rfl)
    · exact h.lt.le
    · exact le_refl _

theorem den_pos : 0 < den u a b := by
  unfold den
  have h1 := mul_nonneg eps6_pos.le (Finset.sum_nonneg fun e (_ : e ∈ Finset.univ) => h.nonneg e)
  have h2 := h.pos
  have h3 := h.nonneg a
  linarith

theorem gate_nonneg (e : Fin 4) : 0 ≤ gate u a b e := by
  unfold gate
  split_ifs
  · exact div_nonneg (h.nonneg e) h.den_pos.le
  · exact le_refl _

theorem gate_pos_iff (e : Fin 4) : 0 < gate u a b e ↔ (e = a ∨ e = b) := by
  unfold gate
  constructor
  · intro q
    by_contra hn
    rw [if_neg hn] at q
    exact lt_irrefl _ q
  · intro q
    rw [if_pos q]
    exact div_pos (h.pos.trans_le ((h.ge_iff e).mpr q)) h.den_pos

end Top2

/-! ## Lanes: lane `j` belongs to expert `j / 32` and hidden unit `j % 32` -/

def le (j : Fin 128) : Fin 4 := ⟨j.val / 32, by omega⟩
def lh (j : Fin 128) : Fin 32 := ⟨j.val % 32, by omega⟩
def lane (e : Fin 4) (h : Fin 32) : Fin 128 := ⟨e.val * 32 + h.val, by omega⟩

theorem le_lane (e : Fin 4) (h : Fin 32) : le (lane e h) = e := Fin.ext (by simp only [le, lane]; omega)
theorem lh_lane (e : Fin 4) (h : Fin 32) : lh (lane e h) = h := Fin.ext (by simp only [lh, lane]; omega)

/-- A sum over the lanes is a sum over experts and hidden units. -/
theorem lane_sum {M : Type*} [AddCommMonoid M] (f : Fin 4 → Fin 32 → M) : ∑ j : Fin 128, f (le j) (lh j) = ∑ e, ∑ h, f e h := by
  rw [← Fintype.sum_prod_type' f]
  exact Fintype.sum_equiv
    { toFun := fun j => (le j, lh j), invFun := fun p => lane p.1 p.2,
      left_inv := fun j => Fin.ext (by simp only [le, lh, lane]; omega),
      right_inv := fun p => Prod.ext (le_lane _ _) (lh_lane _ _) } _ _ (fun _ => rfl)

/-- A sum over the lanes of a number of the expert alone is 32 times the sum over experts. -/
theorem lane_sum1 (f : Fin 4 → ℝ) : ∑ j : Fin 128, f (le j) = 32 * ∑ e, f e := by
  rw [lane_sum (fun e _ => f e), Finset.mul_sum]
  exact Finset.sum_congr rfl fun e _ => by simp

/-- The two chosen experts' sum. -/
theorem sum_sel (f : Fin 4 → ℝ) {a b : Fin 4} (h : b ≠ a) : ∑ e, (if e = a ∨ e = b then f e else 0) = f a + f b := by
  have : ∀ e, (if e = a ∨ e = b then f e else 0) = (if e = a then f e else 0) + (if e = b then f e else 0) := by
    intro e
    by_cases h1 : e = a
    · subst h1; simp [h.symm]
    · simp [h1]
  simp only [this, Finset.sum_add_distrib, Finset.sum_ite_eq', Finset.mem_univ, if_true]

/-- The gate as the kernel writes it, on 32 copies of each expert. -/
theorem gate_lane {u : Fin 4 → ℝ} {a b : Fin 4} (h : Top2 u a b) (e : Fin 4) :
    (if e = a ∨ e = b then u e else 0)
      * (32 / (∑ j : Fin 128, (if le j = a ∨ le j = b then u (le j) else 0) + eps6 * ∑ j : Fin 128, u (le j))) = gate u a b e := by
  rw [lane_sum1 (fun e => if e = a ∨ e = b then u e else 0), lane_sum1 u, sum_sel _ h.ne]
  have hd := h.den_pos
  have : 32 * (u a + u b) + eps6 * (32 * ∑ e, u e) = 32 * den u a b := by unfold den; ring
  rw [this]
  unfold gate
  by_cases he : e = a ∨ e = b
  · simp only [if_pos he]; field_simp
  · simp only [if_neg he, zero_mul]

/-- That lane denominator is positive. -/
theorem lane_den_pos {u : Fin 4 → ℝ} {a b : Fin 4} (h : Top2 u a b) :
    0 < ∑ j : Fin 128, (if le j = a ∨ le j = b then u (le j) else 0) + eps6 * ∑ j : Fin 128, u (le j) := by
  rw [lane_sum1 (fun e => if e = a ∨ e = b then u e else 0), lane_sum1 u, sum_sel _ h.ne]
  have hd := h.den_pos
  unfold den at hd
  linarith

/-- The gate as the reference writes it, on the softmax's probabilities, whatever positive factor `s` the exponentials share. -/
theorem gate_soft {u : Fin 4 → ℝ} {a b : Fin 4} (h : Top2 u a b) {s : ℝ} (hs : 0 < s) (e : Fin 4) :
    (u e * s / ∑ k, u k * s) / (u a * s / (∑ k, u k * s) + u b * s / (∑ k, u k * s) + eps6) = u e / den u a b := by
  have hu : 0 < ∑ e, u e := Finset.sum_pos' (fun e _ => h.nonneg e) ⟨b, Finset.mem_univ _, h.pos⟩
  have hd := h.den_pos
  rw [← Finset.sum_mul]
  have h1 : ∀ q : ℝ, q * s / ((∑ e, u e) * s) = q / ∑ e, u e := fun q => mul_div_mul_right _ _ hs.ne'
  rw [h1, h1, h1]
  have h2 : u a / (∑ e, u e) + u b / (∑ e, u e) + eps6 = den u a b / ∑ e, u e := by unfold den; field_simp
  rw [h2, div_div_div_cancel_right₀ hu.ne']

/-! ## The experts and the prompts -/

/-- Hidden unit `h` of expert `e`. -/
def hid (f1 : Fin 4 → Fin 32 → Fin 256 → ℝ) (z : Fin 256 → ℝ) (e : Fin 4) (h : Fin 32) : ℝ :=
  max (∑ k, z k * f1 e h k) 0
theorem hid_nonneg (f1 : Fin 4 → Fin 32 → Fin 256 → ℝ) (z : Fin 256 → ℝ) (e : Fin 4) (h : Fin 32) : 0 ≤ hid f1 z e h := le_max_right _ _

/-- The mean over one half of an expert's outputs, by hidden unit. -/
def w2 (f2 : Fin 4 → Fin 128 → Fin 32 → EReal) (e : Fin 4) (h : Fin 32) : EReal := (∑ o, f2 e o h) * ((1 / 128 : ℝ) : EReal)
def psum (q : Fin 4 → Fin 32 → ℝ) (g : Fin 4 → ℝ) (w : Fin 4 → Fin 32 → EReal) : EReal := ∑ e, ∑ h, ((q e h * g e : ℝ) : EReal) * w e h

/-- A real factor that is not negative goes into a sum, whatever its terms. -/
theorem coe_mul_sum {ι : Type*} (s : Finset ι) {c : ℝ} (hc : 0 ≤ c) (f : ι → EReal) :
    (c : EReal) * ∑ k ∈ s, f k = ∑ k ∈ s, (c : EReal) * f k := by
  classical
  induction s using Finset.induction_on with
  | empty => simp
  | insert a s h ih =>
    rw [Finset.sum_insert h, Finset.sum_insert h, EReal.left_distrib_of_nonneg_of_ne_top (EReal.coe_nonneg.mpr hc) (EReal.coe_ne_top _), ih]

/-- The mean over a half of the gated experts' outputs. -/
theorem psum_eq {q : Fin 4 → Fin 32 → ℝ} {g : Fin 4 → ℝ} (hq : ∀ e h, 0 ≤ q e h) (hg : ∀ e, 0 ≤ g e) (f2 : Fin 4 → Fin 128 → Fin 32 → EReal) :
    (∑ o, ∑ e, ((g e : ℝ) : EReal) * ∑ h, f2 e o h * ((q e h : ℝ) : EReal)) * ((1 / 128 : ℝ) : EReal) = psum q g (w2 f2) := by
  unfold psum w2
  have h1 : ∀ e h, ((q e h * g e : ℝ) : EReal) * ((∑ o, f2 e o h) * ((1 / 128 : ℝ) : EReal))
      = ∑ o, ((1 / 128 * (q e h * g e) : ℝ) : EReal) * f2 e o h := fun e h => by
    rw [mul_comm (∑ o, f2 e o h), ← mul_assoc, ← EReal.coe_mul, coe_mul_sum _ (by have := hq e h; have := hg e; positivity), mul_comm (1 / 128 : ℝ)]
  have h2 : ∀ o, ((1 / 128 : ℝ) : EReal) * ∑ e, ((g e : ℝ) : EReal) * ∑ h, f2 e o h * ((q e h : ℝ) : EReal)
      = ∑ e, ∑ h, ((1 / 128 * (q e h * g e) : ℝ) : EReal) * f2 e o h := fun o => by
    rw [coe_mul_sum _ (by norm_num)]
    refine Finset.sum_congr rfl fun e _ => ?_
    rw [← mul_assoc, ← EReal.coe_mul, coe_mul_sum _ (by have := hg e; positivity)]
    refine Finset.sum_congr rfl fun h _ => ?_
    rw [mul_comm (f2 e o h), ← mul_assoc, ← EReal.coe_mul]
    congr 2
    ring
  simp only [h1]
  rw [mul_comm, coe_mul_sum _ (by norm_num)]
  simp only [h2]
  rw [Finset.sum_comm]
  exact Finset.sum_congr rfl fun e _ => Finset.sum_comm

/-! ## The balance loss -/

/-- The squared coefficient of variation of four totals. -/
def cv (A : Fin 4 → ℝ) : ℝ :=
  ((∑ e, (A e - (∑ e, A e) / 4) * (A e - (∑ e, A e) / 4)) / 3) / ((∑ e, A e) / 4 * ((∑ e, A e) / 4) + eps10)

theorem cv_den_pos (m : ℝ) : 0 < m * m + eps10 := add_pos_of_nonneg_of_pos (mul_self_nonneg m) eps10_pos

theorem mean_lane (A : Fin 4 → ℝ) : (∑ j : Fin 128, A (le j)) * (1 / 128) = (∑ e, A e) / 4 := by
  rw [lane_sum1]; ring

/-- As the kernel writes it, on 32 copies of each total. -/
theorem cv_lane (A : Fin 4 → ℝ) :
    (∑ j : Fin 128, (A (le j) - (∑ e, A e) / 4) * (A (le j) - (∑ e, A e) / 4)) * (1 / 96)
      / ((∑ e, A e) / 4 * ((∑ e, A e) / 4) + eps10) = cv A := by
  rw [lane_sum1 (fun e => (A e - (∑ e, A e) / 4) * (A e - (∑ e, A e) / 4))]
  unfold cv
  congr 1
  ring

end Cert.Model

end
-- ==== Proof.KPay.lean ====
/-
  What the kernel's body computes from its blocks, element by element, when the data are real numbers.
-/
module

public import proofs.«01_k».proof.Proof.Model
public import proofs.«01_k».proof.Proof.Gen.KernelIdeal.Skeleton
public import Idealize.ShloMosaic.Lib.Pointwise

@[expose] public section

set_option maxRecDepth 16384

noncomputable section

namespace Cert.KPay

open Idealize.ShloMosaic Cert.KernelIdeal Cert.KernelIdeal.Gen Cert.Consts Cert.Model

/-- A selection by a decided bit. -/
theorem select_ite {α : Type} (p : Prop) [Decidable p] (x y : α) :
    Scalar.select (if p then 1#1 else 0#1) x y = if p then x else y := by
  by_cases h : p <;> simp [h, Scalar.select]

variable {v0 v2 : Vec Ideal S1024x1024 .f32} {v33 v36 : Vec Ideal S1024x256 .f32}
  {x t : Fin 1024 → Fin 1024 → ℝ} {wx wt : Fin 256 → Fin 1024 → EReal}

theorem pay7 (hx : ∀ r k, v0 (ix2 r k) = ((x r k : ℝ) : EReal)) (ht : ∀ r k, v2 (ix2 r k) = ((t r k : ℝ) : EReal))
    (hwx : ∀ k o, v33 (ix2 k o) = wx o k) (hwt : ∀ k o, v36 (ix2 k o) = wt o k)
    (r : Fin 1024) (o : Fin 256) :
    k0_pay7 v0 v2 v33 v36 (ix2 r o) = yv (x r) (t r) wx wt o := by
  have hmu : (∑ k, x r k + ∑ k, t r k) * (1 / 2048) = mu1 (x r) (t r) := by unfold mu1; ring
  pointwise [k0_pay7, k0_pay5, k0_pay6]
  simp only [hx, ht, hwx, hwt, bits_inv2048, bits_eps5, sum_coe, ← EReal.coe_add, ← EReal.coe_mul, ← EReal.coe_sub, hmu,
    var1_alt, rsqrt_real (var1_pos _ _)]
  unfold yv n1
  simp only [div_eq_mul_one_div (_ - _)]

/-- The sum of a reduced token is taken of what the reduction gives. -/
theorem pay8 (v0 v2 : Vec Ideal S1024x1024 .f32) (v33 v36 : Vec Ideal S1024x256 .f32) (r : Fin 1024) :
    k0_pay8 v0 v2 v33 v36 (ix1 r) = ∑ o, k0_pay7 v0 v2 v33 v36 (ix2 r o) := by
  pointwise [k0_pay8]

variable {v39 : FVec Ideal S1024x256 .f32} {v40 : FVec Ideal S1024 .f32} {y : Fin 1024 → Fin 256 → ℝ}

theorem pay9 (hy : ∀ r o, v39 (ix2 r o) = ((y r o : ℝ) : EReal)) (hs : ∀ r, v40 (ix1 r) = ((∑ o, y r o : ℝ) : EReal))
    (r : Fin 1024) (o : Fin 256) : k0_pay9 v39 v40 (ix2 r o) = ((zv (y r) o : ℝ) : EReal) := by
  pointwise [k0_pay9]
  simp only [hy, hs, bits_256, bits_eps5, sum_coe, ← EReal.coe_mul, div_real _ (by norm_num : (256 : ℝ) ≠ 0),
    ← EReal.coe_sub, ← EReal.coe_add]
  have h := var2_alt (y r)
  unfold mu2 at h
  rw [h, rsqrt_real (var2_pos _), ← EReal.coe_mul]
  unfold zv mu2
  rw [div_eq_mul_one_div (_ - _)]

variable {v58 : Vec Ideal S256x128 .f32} {g : Fin 256 → Fin 4 → EReal} {u : Fin 1024 → Fin 4 → ℝ}

theorem pay10 (hy : ∀ r o, v39 (ix2 r o) = ((y r o : ℝ) : EReal)) (hs : ∀ r, v40 (ix1 r) = ((∑ o, y r o : ℝ) : EReal))
    (hg : ∀ k j, v58 (ix2 k j) = g k (le j)) (hu : ∀ r e, Ideal.exp (lg g (zv (y r)) e) = ((u r e : ℝ) : EReal)) (r : Fin 1024) (j : Fin 128) :
    k0_pay10 v39 v40 v58 (ix2 r j) = ((u r (le j) : ℝ) : EReal) := by
  pointwise [k0_pay10]
  simp only [pay9 hy hs, hg]
  exact hu r (le j)

theorem pay11 (hy : ∀ r o, v39 (ix2 r o) = ((y r o : ℝ) : EReal)) (hs : ∀ r, v40 (ix1 r) = ((∑ o, y r o : ℝ) : EReal))
    (hg : ∀ k j, v58 (ix2 k j) = g k (le j)) (hu : ∀ r e, Ideal.exp (lg g (zv (y r)) e) = ((u r e : ℝ) : EReal)) (r : Fin 1024) (j : Fin 128)
    {a b : Fin 4} (h2 : Top2 (u r) a b) :
    k0_pay11 v39 v40 v58 (ix2 r j) = if le j = a ∨ le j = b then 1#1 else 0#1 := by
  pointwise [k0_pay11]
  simp only [pay10 hy hs hg hu, bits_bot]
  have m1 : Finset.univ.fold max ⊥ (fun x : Fin 128 => ((u r (le x) : ℝ) : EReal)) = ((u r a : ℝ) : EReal) :=
    fold_max _ _ (lane a 0) (by rw [le_lane]) fun j => EReal.coe_le_coe_iff.mpr (h2.le _)
  rw [m1]
  have m2 : Finset.univ.fold max ⊥ (fun x : Fin 128 =>
      if ((u r a : ℝ) : EReal) ≤ ((u r (le x) : ℝ) : EReal) then ⊥ else ((u r (le x) : ℝ) : EReal)) = ((u r b : ℝ) : EReal) := by
    refine fold_max _ _ (lane b 0) ?_ fun j => ?_
    · rw [le_lane, if_neg]
      rw [EReal.coe_le_coe_iff]
      exact not_le.mpr h2.lt
    · by_cases hj : le j = a
      · rw [hj, if_pos (le_refl _)]; exact bot_le
      · split_ifs
        · exact bot_le
        · exact EReal.coe_le_coe_iff.mpr (h2.le_b hj)
  rw [m2]
  simp only [EReal.coe_le_coe_iff, h2.ge_iff]
  by_cases hj : le j = a ∨ le j = b
  · simp only [hj, decide_true, if_true]; rfl
  · simp only [hj, decide_false, if_false]; rfl

theorem pay12 (hy : ∀ r o, v39 (ix2 r o) = ((y r o : ℝ) : EReal)) (hs : ∀ r, v40 (ix1 r) = ((∑ o, y r o : ℝ) : EReal))
    (hg : ∀ k j, v58 (ix2 k j) = g k (le j)) (hu : ∀ r e, Ideal.exp (lg g (zv (y r)) e) = ((u r e : ℝ) : EReal)) (r : Fin 1024) (j : Fin 128)
    {a b : Fin 4} (h2 : Top2 (u r) a b) :
    k0_pay12 v39 v40 v58 (ix2 r j) = ((gate (u r) a b (le j) : ℝ) : EReal) := by
  pointwise [k0_pay12]
  simp only [pay10 hy hs hg hu, pay11 hy hs hg hu r _ h2, bits_32, bits_eps6, select_ite]
  have c : ∀ x : Fin 128, (if le x = a ∨ le x = b then ((u r (le x) : ℝ) : EReal) else 0)
      = ((if le x = a ∨ le x = b then u r (le x) else 0 : ℝ) : EReal) := fun x => by
    split_ifs <;> rfl
  simp only [c, sum_coe, ← EReal.coe_mul, ← EReal.coe_add, div_real _ (lane_den_pos h2).ne']
  rw [← gate_lane h2]
  split_ifs
  · rfl
  · rw [zero_mul]; rfl

variable {v57 : FVec Ideal S1024x256 .f32} {v84 : FVec Ideal S1024x128 .f32} {v85 : Vec Ideal S256x128 .f32}
  {z : Fin 1024 → Fin 256 → ℝ} {gt : Fin 1024 → Fin 4 → ℝ} {f1 : Fin 4 → Fin 32 → Fin 256 → ℝ}

theorem pay13 (hz : ∀ r o, v57 (ix2 r o) = ((z r o : ℝ) : EReal)) (hg : ∀ r j, v84 (ix2 r j) = ((gt r (le j) : ℝ) : EReal))
    (hf : ∀ k j, v85 (ix2 k j) = ((f1 (le j) (lh j) k : ℝ) : EReal)) (r : Fin 1024) (j : Fin 128) :
    k0_pay13 v57 v84 v85 (ix2 r j) = ((hid f1 (z r) (le j) (lh j) * gt r (le j) : ℝ) : EReal) := by
  pointwise [k0_pay13]
  simp only [hz, hg, hf, ← EReal.coe_mul, sum_coe, ← EReal.coe_zero, max_real]
  rfl

variable {v111 : Vec Ideal S1x128 .f32} {w : Fin 4 → Fin 32 → EReal}

theorem pay18 (hz : ∀ r o, v57 (ix2 r o) = ((z r o : ℝ) : EReal)) (hg : ∀ r j, v84 (ix2 r j) = ((gt r (le j) : ℝ) : EReal))
    (hf : ∀ k j, v85 (ix2 k j) = ((f1 (le j) (lh j) k : ℝ) : EReal))
    (hw : ∀ j, v111 (ix2 0 j) = w (le j) (lh j)) (r : Fin 1024) :
    k0_pay18 v57 v84 v85 v111 (ix2 r 0) = Ideal.logistic (psum (hid f1 (z r)) (gt r) w) := by
  pointwise [k0_pay18]
  simp only [pay13 hz hg hf, hw, lane_sum (fun e h => ((hid f1 (z r) e h * gt r e : ℝ) : EReal) * w e h)]
  rfl

theorem pay1 (v1 : FVec Ideal S1024x1024 .f32) (v117 : FVec Ideal S1024x1 .f32) (v127 : Vec Ideal S1x1024 .f32) (r k : Fin 1024) :
    k0_pay1 v1 v117 v127 (ix2 r k) = v117 (ix2 r 0) * v1 (ix2 r k) + v127 (ix2 0 k) := by
  pointwise [k0_pay1]

theorem pay2 {v3 : FVec Ideal S1024x1024 .f32} {v90 : FVec Ideal S1024x128 .f32} {v119 : FVec Ideal S1x128 .f32} (v133 : Vec Ideal S1x1024 .f32)
    {q : Fin 1024 → Fin 4 → Fin 32 → ℝ}
    (hq : ∀ r j, v90 (ix2 r j) = ((q r (le j) (lh j) * gt r (le j) : ℝ) : EReal))
    (hw : ∀ j, v119 (ix2 0 j) = w (le j) (lh j)) (r k : Fin 1024) :
    k0_pay2 v3 v90 v119 v133 (ix2 r k) = Ideal.logistic (psum (q r) (gt r) w) * v3 (ix2 r k) + v133 (ix2 0 k) := by
  pointwise [k0_pay2]
  simp only [hq, hw, lane_sum (fun e h => ((q r e h * gt r e : ℝ) : EReal) * w e h)]
  rfl

theorem pay16 {a0 : Vec Ideal S1x128 .f32} {A : Fin 4 → ℝ} (hg : ∀ r j, v84 (ix2 r j) = ((gt r (le j) : ℝ) : EReal))
    (ha : ∀ j, a0 (ix2 0 j) = ((A (le j) : ℝ) : EReal)) (j : Fin 128) :
    k0_pay16 v84 a0 (ix2 0 j) = ((A (le j) + ∑ r, gt r (le j) : ℝ) : EReal) := by
  pointwise [k0_pay16]
  simp only [hg, ha, sum_coe, ← EReal.coe_add]

theorem pay17 {v73 : IVec S1024x128 1} {a b : Fin 1024 → Fin 4} {a0 : Vec Ideal S1x128 .f32} {A : Fin 4 → ℝ}
    (hm : ∀ r j, v73 (ix2 r j) = if le j = a r ∨ le j = b r then 1#1 else 0#1)
    (ha : ∀ j, a0 (ix2 0 j) = ((A (le j) : ℝ) : EReal)) (j : Fin 128) :
    k0_pay17 v73 a0 (ix2 0 j) = ((A (le j) + ∑ r, sel (a r) (b r) (le j) : ℝ) : EReal) := by
  pointwise [k0_pay17]
  have c : ∀ x : Fin 1024, (if le j = a x ∨ le j = b x then (1 : EReal) else 0) = ((sel (a x) (b x) (le j) : ℝ) : EReal) := fun x => by
    unfold sel; split_ifs <;> rfl
  simp only [hm, ha, select_ite, c, sum_coe, ← EReal.coe_add]

theorem pay4 {a0 b0 : Vec Ideal S1x128 .f32} {A B : Fin 4 → ℝ}
    (ha : ∀ j, a0 (ix2 0 j) = ((A (le j) : ℝ) : EReal)) (hb : ∀ j, b0 (ix2 0 j) = ((B (le j) : ℝ) : EReal)) :
    k0_pay4 a0 b0 (ix2 0 0) = (((cv A + cv B) * cent : ℝ) : EReal) := by
  have inv96 : Named.named (F := Ideal) Cert.KernelIdeal.κ "inv96" (φ := .f32) 0x3C2AAAAB#32 = ((1 / 96 : ℝ) : EReal) :=
    IdealRules.named_const.ideal_named_scalar _ _ _ _ rfl
  pointwise [k0_pay4]
  simp only [ha, hb, inv96, bits_inv128, bits_eps10, bits_cent, sum_coe, ← EReal.coe_mul, ← EReal.coe_sub, ← EReal.coe_add,
    mean_lane, div_real _ (cv_den_pos _).ne', cv_lane]

end Cert.KPay

end
-- ==== Proof.RRow.lean ====
/-
  What the reference computes for one token, element by element, when its data are real
  numbers, and what becomes of a token with an infinite entry.
-/
module

public import proofs.«01_k».proof.Proof.Model
public import proofs.«01_k».proof.Proof.Gen.ReferenceIdeal.Read
public import Idealize.ShloMosaic.Lib.Pointwise

@[expose] public section

set_option maxRecDepth 16384

noncomputable section

namespace Cert.RRow

open Idealize.ShloMosaic Cert.ReferenceIdeal Cert.ReferenceIdeal.Gen Cert.ReferenceIdeal.Read Cert.Consts Cert.Model

variable {x0 x1 : (⟨S4x2048x1024, .f32⟩ : BufTy).Contents (Elt Ideal)} {b : Fin 4} {n : Fin 2048} {x t : Fin 1024 → ℝ}

theorem v4 (hx : ∀ k, x0 (ix3 b n k) = ((x k : ℝ) : EReal)) (ht : ∀ k, x1 (ix3 b n k) = ((t k : ℝ) : EReal)) :
    val_main_v4 x0 x1 (ix3 b n 0) = ((mu1 x t : ℝ) : EReal) := by
  pointwise [val_main_v4, val_main_v3, val_main_v2, val_main_v1, val_main_v0, val_main_cst, val_main_cst_0]
  simp only [hx, ht, bits_2048, sum_coe, ← EReal.coe_add, div_real _ (by norm_num : (2048 : ℝ) ≠ 0)]
  rfl

theorem v11 (hx : ∀ k, x0 (ix3 b n k) = ((x k : ℝ) : EReal)) (ht : ∀ k, x1 (ix3 b n k) = ((t k : ℝ) : EReal)) :
    val_main_v11 x0 x1 (ix3 b n 0) = ((var1 x t : ℝ) : EReal) := by
  pointwise [val_main_v11, val_main_v10, val_main_v9, val_main_v8, val_main_v7, val_main_v6, val_main_v5, val_main_v0,
    val_main_cst_1, val_main_cst_2]
  simp only [hx, ht, v4 hx ht, bits_2048, sum_coe, ← EReal.coe_add, ← EReal.coe_sub, ← EReal.coe_mul,
    div_real _ (by norm_num : (2048 : ℝ) ≠ 0)]
  rfl

variable {x3 x4 : (⟨S2048, .f32⟩ : BufTy).Contents (Elt Ideal)} {x5 : (⟨S256x2048, .f32⟩ : BufTy).Contents (Elt Ideal)}

theorem v26 (hx : ∀ k, x0 (ix3 b n k) = ((x k : ℝ) : EReal)) (ht : ∀ k, x1 (ix3 b n k) = ((t k : ℝ) : EReal))
    (h3 : ∀ k, x3 (ix1 k) = ((1 : ℝ) : EReal)) (h4 : ∀ k, x4 (ix1 k) = ((0 : ℝ) : EReal)) (o : Fin 256) :
    val_main_v26 x0 x1 x3 x4 x5 (ix3 b n o)
      = yv x t (fun o k => x5 (ix2 o ⟨k.val, by omega⟩)) (fun o k => x5 (ix2 o ⟨1024 + k.val, by omega⟩)) o := by
  pointwise [val_main_v26, val_main_v25, val_main_v24, val_main_v23, val_main_v22, val_main_v21, val_main_v20, val_main_v19,
    val_main_v18, val_main_v17, val_main_v16, val_main_v15, val_main_v14, val_main_v13, val_main_v12, val_main_v0, val_main_cst_3]
  simp only [hx, ht, v4 hx ht, v11 hx ht, h3, h4, bits_eps5, ← EReal.coe_add, ← EReal.coe_sub, ← EReal.coe_mul,
    sqrt_real (var1_pos _ _).le, div_real _ (Real.sqrt_pos.mpr (var1_pos _ _)).ne', mul_one, add_zero]
  rfl

/-- A token with an infinite entry is reduced to zero: its variance is infinite. -/
theorem v26_inf (h : ∃ k, ¬(∃ q : ℝ, Sum.elim (fun k : Fin 1024 => x0 (ix3 b n k)) (fun k : Fin 1024 => x1 (ix3 b n k)) k = (q : EReal)))
    (h3 : ∀ k, x3 (ix1 k) = ((1 : ℝ) : EReal)) (h4 : ∀ k, x4 (ix1 k) = ((0 : ℝ) : EReal)) (o : Fin 256) :
    val_main_v26 x0 x1 x3 x4 x5 (ix3 b n o) = ((0 : ℝ) : EReal) := by
  have hm : val_main_v4 x0 x1 (ix3 b n 0)
      = (∑ k, Sum.elim (fun k : Fin 1024 => x0 (ix3 b n k)) (fun k : Fin 1024 => x1 (ix3 b n k)) k) * ((1 / 2048 : ℝ) : EReal) := by
    rw [Fintype.sum_sum_type]
    pointwise [val_main_v4, val_main_v3, val_main_v2, val_main_v1, val_main_v0, val_main_cst, val_main_cst_0]
    rw [bits_2048, Ideal.div_coe (by norm_num : (2048 : ℝ) ≠ 0)]
    rfl
  have hs := spread _ (by norm_num : (0 : ℝ) < 1 / 2048) h
  rw [← hm] at hs
  have hv : val_main_v11 x0 x1 (ix3 b n 0) = ⊤ := by
    pointwise [val_main_v11, val_main_v10, val_main_v9, val_main_v8, val_main_v7, val_main_v6, val_main_v5, val_main_v0,
      val_main_cst_1, val_main_cst_2]
    have ha : ∀ k : Fin 1024, (x0 (ix3 b n k) - val_main_v4 x0 x1 (ix3 b n 0)) * (x0 (ix3 b n k) - val_main_v4 x0 x1 (ix3 b n 0)) = ⊤ :=
      fun k => hs (Sum.inl k)
    have hb : ∀ k : Fin 1024, (x1 (ix3 b n k) - val_main_v4 x0 x1 (ix3 b n 0)) * (x1 (ix3 b n k) - val_main_v4 x0 x1 (ix3 b n 0)) = ⊤ :=
      fun k => hs (Sum.inr k)
    simp only [ha, hb]
    rw [sum_top, bits_2048, Ideal.div_coe (by norm_num : (2048 : ℝ) ≠ 0), EReal.top_add_top, EReal.top_mul_coe_of_pos (by norm_num)]
  pointwise [val_main_v26, val_main_v25, val_main_v24, val_main_v23, val_main_v22, val_main_v21, val_main_v20, val_main_v19,
    val_main_v18, val_main_v17, val_main_v16, val_main_v15, val_main_v14, val_main_v13, val_main_v12, val_main_v0, val_main_cst_3]
  simp only [hv, h3, h4, bits_eps5, top_eps, div_top, EReal.coe_zero, add_zero, zero_mul, Finset.sum_const_zero]

variable {x6 x7 : (⟨S256, .f32⟩ : BufTy).Contents (Elt Ideal)} {y : Fin 256 → ℝ}

theorem v30 (hy : ∀ o, val_main_v26 x0 x1 x3 x4 x5 (ix3 b n o) = ((y o : ℝ) : EReal)) :
    val_main_v30 x0 x1 x3 x4 x5 (ix3 b n 0) = ((mu2 y : ℝ) : EReal) := by
  pointwise [val_main_v30, val_main_v29, val_main_v28, val_main_v27, val_main_cst_4, val_main_cst_5]
  simp only [hy, bits_256, sum_coe, div_real _ (by norm_num : (256 : ℝ) ≠ 0)]
  rfl

theorem v37 (hy : ∀ o, val_main_v26 x0 x1 x3 x4 x5 (ix3 b n o) = ((y o : ℝ) : EReal)) :
    val_main_v37 x0 x1 x3 x4 x5 (ix3 b n 0) = ((var2 y : ℝ) : EReal) := by
  pointwise [val_main_v37, val_main_v36, val_main_v35, val_main_v34, val_main_v33, val_main_v32, val_main_v31, val_main_cst_6, val_main_cst_7]
  simp only [hy, v30 hy, bits_256, sum_coe, ← EReal.coe_sub, ← EReal.coe_mul, div_real _ (by norm_num : (256 : ℝ) ≠ 0)]
  rfl

theorem v50 (hy : ∀ o, val_main_v26 x0 x1 x3 x4 x5 (ix3 b n o) = ((y o : ℝ) : EReal))
    (h6 : ∀ k, x6 (ix1 k) = ((1 : ℝ) : EReal)) (h7 : ∀ k, x7 (ix1 k) = ((0 : ℝ) : EReal)) (o : Fin 256) :
    val_main_v50 x0 x1 x3 x4 x5 x6 x7 (ix3 b n o) = ((zv y o : ℝ) : EReal) := by
  pointwise [val_main_v50, val_main_v49, val_main_v48, val_main_v47, val_main_v46, val_main_v45, val_main_v44,
    val_main_v43, val_main_v42, val_main_v41, val_main_v40, val_main_v39, val_main_v38, val_main_cst_8]
  simp only [hy, v30 hy, v37 hy, h6, h7, bits_eps5, ← EReal.coe_add, ← EReal.coe_sub, ← EReal.coe_mul,
    sqrt_real (var2_pos _).le, div_real _ (Real.sqrt_pos.mpr (var2_pos _)).ne', mul_one, add_zero]
  rfl

/-- A reduced token with an infinite entry is normalized to zero. -/
theorem v50_inf (h : ∃ o, ¬(∃ q : ℝ, val_main_v26 x0 x1 x3 x4 x5 (ix3 b n o) = (q : EReal)))
    (h6 : ∀ k, x6 (ix1 k) = ((1 : ℝ) : EReal)) (h7 : ∀ k, x7 (ix1 k) = ((0 : ℝ) : EReal)) (o : Fin 256) :
    val_main_v50 x0 x1 x3 x4 x5 x6 x7 (ix3 b n o) = ((0 : ℝ) : EReal) := by
  have hm : val_main_v30 x0 x1 x3 x4 x5 (ix3 b n 0)
      = (∑ o : Fin 256, val_main_v26 x0 x1 x3 x4 x5 (ix3 b n o)) * ((1 / 256 : ℝ) : EReal) := by
    pointwise [val_main_v30, val_main_v29, val_main_v28, val_main_v27, val_main_cst_4, val_main_cst_5]
    rw [bits_256, Ideal.div_coe (by norm_num : (256 : ℝ) ≠ 0)]
  have hs := spread (fun o : Fin 256 => val_main_v26 x0 x1 x3 x4 x5 (ix3 b n o)) (by norm_num : (0 : ℝ) < 1 / 256) h
  rw [← hm] at hs
  have hv : val_main_v37 x0 x1 x3 x4 x5 (ix3 b n 0) = ⊤ := by
    pointwise [val_main_v37, val_main_v36, val_main_v35, val_main_v34, val_main_v33, val_main_v32, val_main_v31, val_main_cst_6, val_main_cst_7]
    simp only [hs]
    rw [sum_top, bits_256, Ideal.div_coe (by norm_num : (256 : ℝ) ≠ 0), EReal.top_mul_coe_of_pos (by norm_num)]
  pointwise [val_main_v50, val_main_v49, val_main_v48, val_main_v47, val_main_v46, val_main_v45, val_main_v44,
    val_main_v43, val_main_v42, val_main_v41, val_main_v40, val_main_v39, val_main_v38, val_main_cst_8]
  simp only [hv, h6, h7, bits_eps5, top_eps, div_top, EReal.coe_zero, add_zero, zero_mul]

/-- The batch of a row of the flattened tokens, and its place in the batch. -/
def rb (r : Fin 8192) : Fin 4 := ⟨r.val / 2048, by omega⟩
def rn (r : Fin 8192) : Fin 2048 := ⟨r.val % 2048, by omega⟩

theorem v51 (r : Fin 8192) (o : Fin 256) :
    val_main_v51 x0 x1 x3 x4 x5 x6 x7 (ix2 r o) = val_main_v50 x0 x1 x3 x4 x5 x6 x7 (ix3 (rb r) (rn r) o) := by
  pointwise [val_main_v51]
  rfl

variable {x2 : (⟨S_, .i32⟩ : BufTy).Contents (Elt Ideal)} {x8 : (⟨S3x256x4, .f32⟩ : BufTy).Contents (Elt Ideal)}
  {r : Fin 8192} {z : Fin 256 → ℝ}

theorem v63 (hz : ∀ o, val_main_v51 x0 x1 x3 x4 x5 x6 x7 (ix2 r o) = ((z o : ℝ) : EReal)) (e : Fin 4) :
    val_main_v63 x0 x1 x2 x3 x4 x5 x6 x7 x8 (ix2 r e) = lg (fun k e => val_main_v62 (F := Ideal) x2 x8 (ix2 k e)) z e := by
  pointwise [val_main_v63]
  simp only [hz]
  rfl

variable {l : Fin 4 → EReal}

/-- The reference's softmax. -/
theorem v74 (hl : ∀ e, val_main_v63 x0 x1 x2 x3 x4 x5 x6 x7 x8 (ix2 r e) = l e) (e : Fin 4) :
    val_main_v74 x0 x1 x2 x3 x4 x5 x6 x7 x8 (ix2 r e)
      = Ideal.div (Ideal.exp (l e - Finset.univ.fold max ⊥ l)) (∑ k, Ideal.exp (l k - Finset.univ.fold max ⊥ l)) := by
  have h66 : val_main_v66 x0 x1 x2 x3 x4 x5 x6 x7 x8 (ix1 r) = Finset.univ.fold max ⊥ l := by
    pointwise [val_main_v66, val_main_v65, val_main_v64, val_main_cst_20, val_main_cst_21]
    simp only [hl, bits_bot]
    exact max_eq_right bot_le
  pointwise [val_main_v74, val_main_v73, val_main_v72, val_main_v71, val_main_v70, val_main_v69, val_main_v68, val_main_v67, val_main_cst_22]
  simp only [hl, h66]

variable {x9 : (⟨S4x32x256, .f32⟩ : BufTy).Contents (Elt Ideal)} {x10 : (⟨S4x32, .f32⟩ : BufTy).Contents (Elt Ideal)}
  {x11 : (⟨S4x256x32, .f32⟩ : BufTy).Contents (Elt Ideal)} {x12 : (⟨S4x256, .f32⟩ : BufTy).Contents (Elt Ideal)}
  {f1 : Fin 4 → Fin 32 → Fin 256 → ℝ}

theorem v125 (hz : ∀ o, val_main_v51 x0 x1 x3 x4 x5 x6 x7 (ix2 r o) = ((z o : ℝ) : EReal))
    (h9 : ∀ e h k, x9 (ix3 e h k) = ((f1 e h k : ℝ) : EReal)) (h10 : ∀ e h, x10 (ix2 e h) = ((0 : ℝ) : EReal))
    (e : Fin 4) (h : Fin 32) :
    val_main_v125 x0 x1 x3 x4 x5 x6 x7 x9 x10 (ix3 e r h) = ((hid f1 z e h : ℝ) : EReal) := by
  pointwise [val_main_v125, val_main_v124, val_main_v123, val_main_v122, val_main_v121, val_main_v120, val_main_call2_v0, val_main_call2_cst]
  simp only [hz, h9, h10, ← EReal.coe_mul, ← EReal.coe_add, sum_coe, ← EReal.coe_zero, max_real, add_zero]
  unfold hid
  simp only [mul_comm]

theorem v129 (hz : ∀ o, val_main_v51 x0 x1 x3 x4 x5 x6 x7 (ix2 r o) = ((z o : ℝ) : EReal))
    (h9 : ∀ e h k, x9 (ix3 e h k) = ((f1 e h k : ℝ) : EReal)) (h10 : ∀ e h, x10 (ix2 e h) = ((0 : ℝ) : EReal))
    (h12 : ∀ e o, x12 (ix2 e o) = ((0 : ℝ) : EReal)) (e : Fin 4) (o : Fin 256) :
    val_main_v129 x0 x1 x3 x4 x5 x6 x7 x9 x10 x11 x12 (ix3 e r o) = ∑ h, x11 (ix3 e o h) * ((hid f1 z e h : ℝ) : EReal) := by
  pointwise [val_main_v129, val_main_v128, val_main_v127, val_main_v126]
  simp only [v125 hz h9 h10, h12, EReal.coe_zero, add_zero]
  exact Finset.sum_congr rfl fun h _ => mul_comm _ _

variable {gt : Fin 4 → ℝ} {q : Fin 4 → Fin 256 → EReal}

/-- The row of a token. -/
def row (b : Fin 4) (n : Fin 2048) : Fin 8192 := ⟨b.val * 2048 + n.val, by omega⟩

theorem v131 (hg : ∀ e, val_main_v100 x0 x1 x2 x3 x4 x5 x6 x7 x8 (ix2 (row b n) e) = ((gt e : ℝ) : EReal))
    (hq : ∀ e o, val_main_v129 x0 x1 x3 x4 x5 x6 x7 x9 x10 x11 x12 (ix3 e (row b n) o) = q e o) (o : Fin 256) :
    val_main_v131 x0 x1 x2 x3 x4 x5 x6 x7 x8 x9 x10 x11 x12 (ix3 b n o) = ∑ e, ((gt e : ℝ) : EReal) * q e o := by
  have h : val_main_v131 x0 x1 x2 x3 x4 x5 x6 x7 x8 x9 x10 x11 x12 (ix3 b n o)
      = ∑ e, val_main_v100 x0 x1 x2 x3 x4 x5 x6 x7 x8 (ix2 (row b n) e) * val_main_v129 x0 x1 x3 x4 x5 x6 x7 x9 x10 x11 x12 (ix3 e (row b n) o) := by
    pointwise [val_main_v131, val_main_v130]
    rfl
  simp only [h, hg, hq]

variable {s : Fin 256 → EReal}

theorem v143 (hs : ∀ o, val_main_v131 x0 x1 x2 x3 x4 x5 x6 x7 x8 x9 x10 x11 x12 (ix3 b n o) = s o) :
    val_main_v143 x0 x1 x2 x3 x4 x5 x6 x7 x8 x9 x10 x11 x12 (ix3 b n 0)
      = Ideal.logistic ((∑ o : Fin 128, s ⟨o.val, by omega⟩) * ((1 / 128 : ℝ) : EReal)) := by
  pointwise [val_main_v143, val_main_v142, val_main_v141, val_main_v140, val_main_v139, val_main_v138, val_main_v137, val_main_v136,
    val_main_v135, val_main_v134, val_main_v132, val_main_cst_42, val_main_cst_43, val_main_cst_44, val_main_cst_45]
  simp only [hs, bits_128, Ideal.div_coe (by norm_num : (128 : ℝ) ≠ 0)]
  rfl

theorem v153 (hs : ∀ o, val_main_v131 x0 x1 x2 x3 x4 x5 x6 x7 x8 x9 x10 x11 x12 (ix3 b n o) = s o) :
    val_main_v153 x0 x1 x2 x3 x4 x5 x6 x7 x8 x9 x10 x11 x12 (ix3 b n 0)
      = Ideal.logistic ((∑ o : Fin 128, s ⟨128 + o.val, by omega⟩) * ((1 / 128 : ℝ) : EReal)) := by
  pointwise [val_main_v153, val_main_v152, val_main_v151, val_main_v150, val_main_v149, val_main_v148, val_main_v147, val_main_v146,
    val_main_v145, val_main_v144, val_main_v133, val_main_cst_46, val_main_cst_47, val_main_cst_48, val_main_cst_49]
  simp only [hs, bits_128, Ideal.div_coe (by norm_num : (128 : ℝ) ≠ 0)]
  rfl

end Cert.RRow

end
-- ==== Proof.KHost.lean ====
/-
  The arrays the launch's windows are cut from, element by element, in terms of the arguments.
-/
module

public import proofs.«01_k».proof.Proof.Model
public import proofs.«01_k».proof.Proof.RRow
public import proofs.«01_k».proof.Proof.Gen.KernelIdeal.Frame.Runs
public import Idealize.ShloMosaic.Lib.Pointwise
public import Idealize.ShloMosaic.Lib.StableHlo.RunRead
public import Idealize.ShloMosaic.Lib.StableHlo.RunClose

@[expose] public section

set_option maxRecDepth 16384

noncomputable section

namespace Cert.KHost

open Idealize.ShloMosaic Idealize.ShloMosaic.TcCoe Idealize.SL.Sem Cert.KernelIdeal Cert.KernelIdeal.Gen Cert.Consts Cert.Model

variable (m : (ℓ : Loc nD τ sig) → Buf (Elt Ideal) ℓ) (c : Dev nD)

/-- The slice the reference takes is set by its start words. -/
theorem slice_congr {α : Type} {s t : Shape} (x : s.Idx → α) {f g : Fin s.rank → Int} (h : s.Slices (fun _ => 0) t) (e : f = g) (i : t.Idx) :
    Host.dynamicSlice t x f h i = Host.dynamicSlice t x g h i := by rw [e]

theorem V_v0 (r : Fin 8192) (k : Fin 1024) : V m c main_v0 (ix2 r k) = (m ((c.tc : Thread nD τ).loc main_arg0) : FVec Ideal S4x2048x1024 .f32) (ix3 (RRow.rb r) (RRow.rn r) k) := by
  show StableHlo.after (List.flatten [hostOps0, hostOps0_1, hostOps0_2]) _ (Proc.devRef .tc main_v0) _ = _
  simp only [hostOps0, hostOps0_1, hostOps0_2, List.flatten_cons, List.flatten_nil, List.append_nil, List.cons_append, List.nil_append]
  after_results_simp_entrywise
  pointwise
  rfl

theorem V_v1 (r : Fin 8192) (k : Fin 1024) : V m c main_v1 (ix2 r k) = (m ((c.tc : Thread nD τ).loc main_arg1) : FVec Ideal S4x2048x1024 .f32) (ix3 (RRow.rb r) (RRow.rn r) k) := by
  show StableHlo.after (List.flatten [hostOps0, hostOps0_1, hostOps0_2]) _ (Proc.devRef .tc main_v1) _ = _
  simp only [hostOps0, hostOps0_1, hostOps0_2, List.flatten_cons, List.flatten_nil, List.append_nil, List.cons_append, List.nil_append]
  after_results_simp_entrywise
  pointwise
  rfl

theorem V_v31 (k : Fin 1024) (o : Fin 256) : V m c main_v31 (ix2 k o) = (m ((c.tc : Thread nD τ).loc main_arg5) : FVec Ideal S256x2048 .f32) (ix2 o ⟨k.val, by omega⟩) := by
  show StableHlo.after (List.flatten [hostOps0, hostOps0_1, hostOps0_2]) _ (Proc.devRef .tc main_v31) _ = _
  simp only [hostOps0, hostOps0_1, hostOps0_2, List.flatten_cons, List.flatten_nil, List.append_nil, List.cons_append, List.nil_append]
  after_results_simp_entrywise
  pointwise

theorem V_v32 (k : Fin 1024) (o : Fin 256) : V m c main_v32 (ix2 k o) = (m ((c.tc : Thread nD τ).loc main_arg5) : FVec Ideal S256x2048 .f32) (ix2 o ⟨1024 + k.val, by omega⟩) := by
  show StableHlo.after (List.flatten [hostOps0, hostOps0_1, hostOps0_2]) _ (Proc.devRef .tc main_v32) _ = _
  simp only [hostOps0, hostOps0_1, hostOps0_2, List.flatten_cons, List.flatten_nil, List.append_nil, List.cons_append, List.nil_append]
  after_results_simp_entrywise
  pointwise

theorem V_v4 (k : Fin 256) (j : Fin 128) : V m c main_v4 (ix2 k j) = Cert.ReferenceIdeal.Read.val_main_v62 (F := Ideal) (m ((c.tc : Thread nD τ).loc main_arg2)) (m ((c.tc : Thread nD τ).loc main_arg8)) (ix2 k (le j)) := by
  show StableHlo.after (List.flatten [hostOps0, hostOps0_1, hostOps0_2]) _ (Proc.devRef .tc main_v4) _ = _
  simp only [hostOps0, hostOps0_1, hostOps0_2, List.flatten_cons, List.flatten_nil, List.append_nil, List.cons_append, List.nil_append]
  after_results_simp_entrywise
  pointwise [Cert.ReferenceIdeal.Read.val_main_v62]
  unfold Cert.ReferenceIdeal.Read.val_main_v61
  refine slice_congr (s := S3x256x4) (t := S1x256x4) (m ((c.tc : Thread nD τ).loc main_arg8)) sliceFits_S3x256x4_S1x256x4 (funext fun a => ?_) (ix3 0 k (le j))
  match a with
  | ⟨0, _⟩ => rfl
  | ⟨1, _⟩ => rfl
  | ⟨2, _⟩ => rfl

theorem V_v6 (k : Fin 256) (j : Fin 128) : V m c main_v6 (ix2 k j) = (m ((c.tc : Thread nD τ).loc main_arg9) : FVec Ideal S4x32x256 .f32) (ix3 (le j) (lh j) k) := by
  show StableHlo.after (List.flatten [hostOps0, hostOps0_1, hostOps0_2]) _ (Proc.devRef .tc main_v6) _ = _
  simp only [hostOps0, hostOps0_1, hostOps0_2, List.flatten_cons, List.flatten_nil, List.append_nil, List.cons_append, List.nil_append]
  after_results_simp_entrywise
  pointwise
  rfl

theorem V_v13 (j : Fin 128) {f : Fin 4 → Fin 256 → Fin 32 → EReal}
    (hf : ∀ e o h, (m ((c.tc : Thread nD τ).loc main_arg11) : FVec Ideal S4x256x32 .f32) (ix3 e o h) = f e o h) : V m c main_v13 (ix2 0 j) = w2 (fun e o h => f e ⟨o.val, by omega⟩ h) (le j) (lh j) := by
  show StableHlo.after (List.flatten [hostOps0, hostOps0_1, hostOps0_2]) _ (Proc.devRef .tc main_v13) _ = _
  simp only [hostOps0, hostOps0_1, hostOps0_2, List.flatten_cons, List.flatten_nil, List.append_nil, List.cons_append, List.nil_append]
  after_results_simp_entrywise
  pointwise
  simp only [hf, bits_128, Ideal.div_coe (by norm_num : (128 : ℝ) ≠ 0)]
  rfl

theorem V_v18 (j : Fin 128) {f : Fin 4 → Fin 256 → Fin 32 → EReal}
    (hf : ∀ e o h, (m ((c.tc : Thread nD τ).loc main_arg11) : FVec Ideal S4x256x32 .f32) (ix3 e o h) = f e o h) : V m c main_v18 (ix2 0 j) = w2 (fun e o h => f e ⟨128 + o.val, by omega⟩ h) (le j) (lh j) := by
  show StableHlo.after (List.flatten [hostOps0, hostOps0_1, hostOps0_2]) _ (Proc.devRef .tc main_v18) _ = _
  simp only [hostOps0, hostOps0_1, hostOps0_2, List.flatten_cons, List.flatten_nil, List.append_nil, List.cons_append, List.nil_append]
  after_results_simp_entrywise
  pointwise
  simp only [hf, bits_128, Ideal.div_coe (by norm_num : (128 : ℝ) ≠ 0)]
  rfl

/-- The reference adds zero to the first shift row's number. -/
theorem row0 (x2 : IVec S_ 32) (i : S_.Idx) : Cert.ReferenceIdeal.Read.val_main_v160 (F := Ideal) x2 i
    = select (cmpi .slt (muli x2 (constantI S_ 32 2#32)) (constantI S_ 32 0#32))
        (addi (muli x2 (constantI S_ 32 2#32)) (constantI S_ 32 6#32)) (muli x2 (constantI S_ 32 2#32)) i := by
  have e : Cert.ReferenceIdeal.Read.val_main_v157 (F := Ideal) x2 = muli x2 (constantI S_ 32 2#32) := by
    funext i
    exact BitVec.add_zero _
  unfold Cert.ReferenceIdeal.Read.val_main_v160 Cert.ReferenceIdeal.Read.val_main_v158 Cert.ReferenceIdeal.Read.val_main_v159
  rw [e]
  rfl

theorem V_v23 (k : Fin 1024) : V m c main_v23 (ix2 0 k) = Cert.ReferenceIdeal.Read.val_main_v164 (F := Ideal) (m ((c.tc : Thread nD τ).loc main_arg2)) (m ((c.tc : Thread nD τ).loc main_arg13)) (ix2 0 k) := by
  show StableHlo.after (List.flatten [hostOps0, hostOps0_1, hostOps0_2]) _ (Proc.devRef .tc main_v23) _ = _
  simp only [hostOps0, hostOps0_1, hostOps0_2, List.flatten_cons, List.flatten_nil, List.append_nil, List.cons_append, List.nil_append]
  after_results_simp_entrywise
  unfold Cert.ReferenceIdeal.Read.val_main_v164
  rw [show Cert.ReferenceIdeal.Read.val_main_v160 (F := Ideal) (m ((c.tc : Thread nD τ).loc main_arg2)) = _ from funext (row0 _)]
  refine slice_congr (s := S6x1024) (t := S1x1024) (m ((c.tc : Thread nD τ).loc main_arg13)) sliceFits_S6x1024_S1x1024 (funext fun a => ?_) (ix2 0 k)
  match a with
  | ⟨0, _⟩ => rfl
  | ⟨1, _⟩ => rfl

theorem V_v29 (k : Fin 1024) : V m c main_v29 (ix2 0 k) = Cert.ReferenceIdeal.Read.val_main_v179 (F := Ideal) (m ((c.tc : Thread nD τ).loc main_arg2)) (m ((c.tc : Thread nD τ).loc main_arg13)) (ix2 0 k) := by
  show StableHlo.after (List.flatten [hostOps0, hostOps0_1, hostOps0_2]) _ (Proc.devRef .tc main_v29) _ = _
  simp only [hostOps0, hostOps0_1, hostOps0_2, List.flatten_cons, List.flatten_nil, List.append_nil, List.cons_append, List.nil_append]
  after_results_simp_entrywise
  unfold Cert.ReferenceIdeal.Read.val_main_v179
  refine slice_congr (s := S6x1024) (t := S1x1024) (m ((c.tc : Thread nD τ).loc main_arg13)) sliceFits_S6x1024_S1x1024 (funext fun a => ?_) (ix2 0 k)
  match a with
  | ⟨0, _⟩ => rfl
  | ⟨1, _⟩ => rfl

end Cert.KHost

end
-- ==== Proof.RGate.lean ====
module

public import proofs.«01_k».proof.Proof.RRow
public import Idealize.ShloMosaic.Lib.SortFacts
public import Idealize.ShloMosaic.Lib.Routing.OpsPair
public import Idealize.ShloMosaic.Lib.Routing.OpsSet
public import Idealize.ShloMosaic.Lib.WordCmp

@[expose] public section

set_option maxRecDepth 16384

noncomputable section

namespace Cert.RGate

open Idealize.ShloMosaic Cert.ReferenceIdeal Cert.ReferenceIdeal.Gen Cert.ReferenceIdeal.Read Cert.Consts Cert.Model
open Cert.RRow

/-- Of the top three of four columns: places in order, each column's source, the values read there and the places' words. -/
theorem top3 (x : (⟨S8192x4, .f32⟩ : BufTy).Contents (Elt Ideal)) (h : S8192x4.Slices (fun _ => 0) S8192x3) (r : Fin 8192) :
    ∃ π : Fin 4 → Fin 4, Function.Injective π
      ∧ (∀ k : Fin 3, (Host.topK S8192x3 1 (FloatOps.cmpfTotal (F := Ideal) (φ := .f32) .gt) x h).1 (ix2 r k) = x (ix2 r (π ⟨k.val, by omega⟩)))
      ∧ (∀ k : Fin 3, (Host.topK S8192x3 1 (FloatOps.cmpfTotal (F := Ideal) (φ := .f32) .gt) x h).2 (ix2 r k) = BitVec.ofNat 32 (π ⟨k.val, by omega⟩).val)
      ∧ ∀ i j : Fin 4, i < j → x (ix2 r (π j)) ≤ x (ix2 r (π i)) := by
  have ha : ∀ (q c : Fin 4), Shape.Idx.along (s := S8192x4) (ix2 r q) (1 : Fin 2) c = ix2 r c := fun q c => by
    funext a
    match a with
    | ⟨0, _⟩ => rfl
    | ⟨1, _⟩ => rfl
  have hp : ∀ (k : Fin 3) (a : Fin 2), ((ix2 r (⟨k.val, by omega⟩ : Fin 4) : S8192x4.Idx) a).val = 0 + (ix2 r k a).val := fun k a => by
    match a with
    | ⟨0, _⟩ => exact (Nat.zero_add _).symm
    | ⟨1, _⟩ => exact (Nat.zero_add _).symm
  refine ⟨sortedFrom fun k k' : Fin 4 => FloatOps.cmpfTotal (F := Ideal) (φ := .f32) .gt (x (ix2 r k)) (x (ix2 r k')) == 1#1,
    sortedFrom_injective _, fun k => ?_, fun k => ?_, fun i j hij => ?_⟩
  · have e : (Host.topK S8192x3 1 (FloatOps.cmpfTotal (F := Ideal) (φ := .f32) .gt) x h).1
        = extractStridedSlice (s := S8192x4) S8192x3 (fun _ => 0) (Host.sort2 S8192x4 1
          (fun l r : EReal × BitVec 32 => FloatOps.cmpfTotal (F := Ideal) (φ := .f32) .gt l.1 r.1) x (fun i => BitVec.ofNat 32 (i (1 : Fin 2)).val)).1 h := rfl
    rw [e]
    refine (extractStridedSlice_apply (s := S8192x4) _ _ h _ (ix2 r (⟨k.val, by omega⟩ : Fin 4)) (hp k)).trans ?_
    show x (Shape.Idx.along (s := S8192x4) (ix2 r (⟨k.val, _⟩ : Fin 4)) (1 : Fin 2) (sortedFrom (fun q q' : Fin 4 =>
      FloatOps.cmpfTotal (F := Ideal) (φ := .f32) .gt (x (Shape.Idx.along (s := S8192x4) (ix2 r (⟨k.val, _⟩ : Fin 4)) (1 : Fin 2) q))
        (x (Shape.Idx.along (s := S8192x4) (ix2 r (⟨k.val, _⟩ : Fin 4)) (1 : Fin 2) q')) == 1#1) ⟨k.val, _⟩)) = _
    simp only [ha]
    exact congrArg x (ha _ _)
  · have e : (Host.topK S8192x3 1 (FloatOps.cmpfTotal (F := Ideal) (φ := .f32) .gt) x h).2
        = extractStridedSlice (s := S8192x4) S8192x3 (fun _ => 0) (Host.sort2 S8192x4 1
          (fun l r : EReal × BitVec 32 => FloatOps.cmpfTotal (F := Ideal) (φ := .f32) .gt l.1 r.1) x (fun i => BitVec.ofNat 32 (i (1 : Fin 2)).val)).2 h := rfl
    rw [e]
    refine (extractStridedSlice_apply (s := S8192x4) _ _ h _ (ix2 r (⟨k.val, by omega⟩ : Fin 4)) (hp k)).trans ?_
    show BitVec.ofNat 32 ((Shape.Idx.along (s := S8192x4) (ix2 r (⟨k.val, _⟩ : Fin 4)) (1 : Fin 2) (sortedFrom (fun q q' : Fin 4 =>
      FloatOps.cmpfTotal (F := Ideal) (φ := .f32) .gt (x (Shape.Idx.along (s := S8192x4) (ix2 r (⟨k.val, _⟩ : Fin 4)) (1 : Fin 2) q))
        (x (Shape.Idx.along (s := S8192x4) (ix2 r (⟨k.val, _⟩ : Fin 4)) (1 : Fin 2) q')) == 1#1) ⟨k.val, _⟩)) (1 : Fin 2)).val = _
    simp only [ha]
    rfl
  · have hc : ∀ u v : EReal, (FloatOps.cmpfTotal (F := Ideal) (φ := .f32) .gt u v == 1#1) = decide (v < u) := fun u v => by
      show (BitVec.ofBool (decide (v < u)) == 1#1) = _
      cases decide (v < u) <;> rfl
    have := sortedFrom_noInversion
      (fun k k' : Fin 4 => FloatOps.cmpfTotal (F := Ideal) (φ := .f32) .gt (x (ix2 r k)) (x (ix2 r k')) == 1#1)
      (fun k k' : Fin 4 => FloatOps.cmpfTotal (F := Ideal) (φ := .f32) .gt (x (ix2 r k)) (x (ix2 r k')) == 1#1)
      (fun u v q => by
        have q' : x (ix2 r v) < x (ix2 r u) := of_decide_eq_true ((hc _ _).symm.trans q)
        exact (hc _ _).trans (decide_eq_false (not_lt.mpr q'.le)))
      (fun _ _ q => q)
      (fun u v w q q' => by
        have q1 := of_decide_eq_false ((hc _ _).symm.trans q)
        have q2 := of_decide_eq_false ((hc _ _).symm.trans q')
        exact (hc _ _).trans (decide_eq_false (not_lt.mpr ((not_lt.mp q1).trans (not_lt.mp q2))))) i j hij
    exact not_lt.mp (of_decide_eq_false ((hc _ _).symm.trans this))

variable {x0 x1 : (⟨S4x2048x1024, .f32⟩ : BufTy).Contents (Elt Ideal)} {x2 : (⟨S_, .i32⟩ : BufTy).Contents (Elt Ideal)}
  {x3 x4 : (⟨S2048, .f32⟩ : BufTy).Contents (Elt Ideal)} {x5 : (⟨S256x2048, .f32⟩ : BufTy).Contents (Elt Ideal)}
  {x6 x7 : (⟨S256, .f32⟩ : BufTy).Contents (Elt Ideal)} {x8 : (⟨S3x256x4, .f32⟩ : BufTy).Contents (Elt Ideal)}

theorem v82 {p : Fin 4 → ℝ} {a b : Fin 4} (r : Fin 8192)
    (ha : val_main_values x0 x1 x2 x3 x4 x5 x6 x7 x8 (ix2 r 0) = ((p a : ℝ) : EReal))
    (hb : val_main_values x0 x1 x2 x3 x4 x5 x6 x7 x8 (ix2 r 1) = ((p b : ℝ) : EReal)) (hp : ∀ e, 0 ≤ p e) (k : Fin 2) :
    val_main_v82 x0 x1 x2 x3 x4 x5 x6 x7 x8 (ix2 r k) = ((p (if k = 0 then a else b) / (p a + p b + eps6) : ℝ) : EReal) := by
  have hne : p a + p b + eps6 ≠ 0 := (add_pos_of_nonneg_of_pos (add_nonneg (hp a) (hp b)) eps6_pos).ne'
  have h75 : ∀ k : Fin 2, val_main_v75 x0 x1 x2 x3 x4 x5 x6 x7 x8 (ix2 r k) = ((p (if k = 0 then a else b) : ℝ) : EReal) := fun k => by
    pointwise [val_main_v75]
    match k with
    | ⟨0, _⟩ => exact ha
    | ⟨1, _⟩ => exact hb
  pointwise [val_main_v82, val_main_v81, val_main_v80, val_main_v79, val_main_v78, val_main_v77, val_main_cst_23, val_main_cst_24]
  simp only [h75, Fin.sum_univ_two, bits_eps6]
  rw [if_pos trivial, if_neg (by decide : ¬((1 : Fin 2) = 0)), ← EReal.coe_add, ← EReal.coe_add, div_real _ hne]

theorem v99_0 (r : Fin 8192) (k : Fin 2) : val_main_v99 x0 x1 x2 x3 x4 x5 x6 x7 x8 (ix3 r k 0) = BitVec.ofNat 32 r.val := by
  pointwise [val_main_v99, val_main_v97, val_main_v96, val_main_v90, val_main_v89, val_main_v88, val_main_v87, val_main_v86, val_main_v85, val_main_v84, val_main_c_26, val_main_c_27]
  exact Routing.wrap_of_lt _ _ (by rw [BitVec.toNat_ofNat]; exact (Nat.mod_le _ _).trans_lt (by omega))

theorem v99_1 (r : Fin 8192) (k : Fin 2) {c : Fin 4} (hc : val_main_indices x0 x1 x2 x3 x4 x5 x6 x7 x8 (ix2 r ⟨k.val, by omega⟩) = BitVec.ofNat 32 c.val) :
    val_main_v99 x0 x1 x2 x3 x4 x5 x6 x7 x8 (ix3 r k 1) = BitVec.ofNat 32 c.val := by
  pointwise [val_main_v99, val_main_v98, val_main_v95, val_main_v94, val_main_v93, val_main_v92, val_main_v91, val_main_v76, val_main_c_28, val_main_c_29]
  rw [hc]
  exact Routing.wrap_of_lt _ _ (by rw [BitVec.toNat_ofNat]; exact (Nat.mod_le _ _).trans_lt (by omega))

/-- Where an update lands: its token's row, and the column its expert names. -/
theorem lands (r r' : Fin 8192) (k : Fin 2) (e : Fin 4) {c : Fin 4}
    (hc : val_main_indices x0 x1 x2 x3 x4 x5 x6 x7 x8 (ix2 r' ⟨k.val, by omega⟩) = BitVec.ofNat 32 c.val) :
    ScatterDims.resultIdx? scatter_S8192x4_S8192x2x2_S8192x2_n_01_01_2 (ix2 r' k) (val_main_v99 x0 x1 x2 x3 x4 x5 x6 x7 x8) = some (ix2 r e)
      ↔ r' = r ∧ c = e := by
  refine (Routing.scatter_lands2 _ rfl rfl rfl _ r' k r e).trans ?_
  show (val_main_v99 x0 x1 x2 x3 x4 x5 x6 x7 x8 (ix3 r' k 0)).toInt = _ ∧ (val_main_v99 x0 x1 x2 x3 x4 x5 x6 x7 x8 (ix3 r' k 1)).toInt = _ ↔ _
  rw [v99_0, v99_1 r' k hc, StableHlo.Predicate.toInt_ofNat_small _ (by omega),
    StableHlo.Predicate.toInt_ofNat_small _ (by omega)]
  simp only [Nat.cast_inj, Fin.ext_iff]

theorem v100 {i : Fin 8192 → Fin 2 → Fin 4}
    (hi : ∀ r (k : Fin 2), val_main_indices x0 x1 x2 x3 x4 x5 x6 x7 x8 (ix2 r ⟨k.val, by omega⟩) = BitVec.ofNat 32 (i r k).val)
    (hne : ∀ r, i r 0 ≠ i r 1) {q : Fin 8192 → Fin 2 → ℝ}
    (hq : ∀ r k, val_main_v82 x0 x1 x2 x3 x4 x5 x6 x7 x8 (ix2 r k) = ((q r k : ℝ) : EReal)) (r : Fin 8192) (e : Fin 4) :
    val_main_v100 x0 x1 x2 x3 x4 x5 x6 x7 x8 (ix2 r e)
      = ((if e = i r 0 then q r 0 else if e = i r 1 then q r 1 else 0 : ℝ) : EReal) := by
  have key : ∀ k0 : Fin 2, e = i r k0 → val_main_v100 x0 x1 x2 x3 x4 x5 x6 x7 x8 (ix2 r e) = ((q r k0 : ℝ) : EReal) := fun k0 h0 => by
    unfold val_main_v100
    refine Routing.scatter_set_hit _ _ _ _ _ _ (fun j hj => ?_) (ix2 r k0) ((lands r r k0 e (hi r k0)).mpr ⟨rfl, h0.symm⟩)
    obtain ⟨r', k, rfl⟩ : ∃ (r' : Fin 8192) (k : Fin 2), j = ix2 r' k := ⟨j 0, j 1, eq_ix2 j⟩
    obtain ⟨rfl, h⟩ := (lands r r' k e (hi r' k)).mp hj
    have : k = k0 := by
      have hh := h.trans h0
      fin_cases k <;> fin_cases k0 <;> first | rfl | exact absurd hh (hne _) | exact absurd hh.symm (hne _)
    rw [hq, this]
  by_cases h0 : e = i r 0
  · rw [if_pos h0]; exact key 0 h0
  · rw [if_neg h0]
    by_cases h1 : e = i r 1
    · rw [if_pos h1]; exact key 1 h1
    · rw [if_neg h1]
      unfold val_main_v100
      rw [Routing.scatter_set_miss]
      · pointwise [val_main_v83, val_main_cst_25]
        rfl
      · intro j hj
        obtain ⟨r', k, rfl⟩ : ∃ (r' : Fin 8192) (k : Fin 2), j = ix2 r' k := ⟨j 0, j 1, eq_ix2 j⟩
        obtain ⟨rfl, h⟩ := (lands r r' k e (hi r' k)).mp hj
        fin_cases k
        · exact h0 h.symm
        · exact h1 h.symm

/-- A token whose four probabilities are equal has no strict order among them. -/
theorem not_flat (r : Fin 8192) {q : EReal} (h : ∀ e, val_main_v74 x0 x1 x2 x3 x4 x5 x6 x7 x8 (ix2 r e) = q)
    (h01 : val_main_values x0 x1 x2 x3 x4 x5 x6 x7 x8 (ix2 r 1) < val_main_values x0 x1 x2 x3 x4 x5 x6 x7 x8 (ix2 r 0)) : False := by
  obtain ⟨π, -, hv, -, -⟩ := top3 (val_main_v74 x0 x1 x2 x3 x4 x5 x6 x7 x8) sliceFits_S8192x4_S8192x3 r
  have hval : ∀ k : Fin 3, val_main_values x0 x1 x2 x3 x4 x5 x6 x7 x8 (ix2 r k) = q := fun k => (hv k).trans (h _)
  rw [hval, hval] at h01
  exact lt_irrefl _ h01

/-- What the precondition's strict order among the three greatest probabilities gives at a token: its two greatest logits, and the gates the reference holds. -/
theorem v100_gate {u : Fin 8192 → Fin 4 → ℝ} {s : Fin 8192 → ℝ} (h0 : ∀ r e, 0 ≤ u r e) (hs : ∀ r, 0 < s r) (hu : ∀ r, 0 < ∑ e, u r e)
    (hc : ∀ r e, val_main_v74 x0 x1 x2 x3 x4 x5 x6 x7 x8 (ix2 r e) = ((u r e * s r / ∑ k, u r k * s r : ℝ) : EReal))
    (h01 : ∀ r, val_main_values x0 x1 x2 x3 x4 x5 x6 x7 x8 (ix2 r 1) < val_main_values x0 x1 x2 x3 x4 x5 x6 x7 x8 (ix2 r 0))
    (h12 : ∀ r, val_main_values x0 x1 x2 x3 x4 x5 x6 x7 x8 (ix2 r 2) < val_main_values x0 x1 x2 x3 x4 x5 x6 x7 x8 (ix2 r 1)) :
    ∃ a b : Fin 8192 → Fin 4, (∀ r, Top2 (u r) (a r) (b r))
      ∧ ∀ r e, val_main_v100 x0 x1 x2 x3 x4 x5 x6 x7 x8 (ix2 r e) = ((gate (u r) (a r) (b r) e : ℝ) : EReal) := by
  choose π hinj hv hw hmono using fun r => top3 (val_main_v74 x0 x1 x2 x3 x4 x5 x6 x7 x8) sliceFits_S8192x4_S8192x3 r
  have hn : ∀ r, 0 < ∑ k, u r k * s r := fun r => by rw [← Finset.sum_mul]; exact mul_pos (hu r) (hs r)
  have hiff : ∀ r e e', ((u r e * s r / ∑ k, u r k * s r : ℝ) : EReal) < ((u r e' * s r / ∑ k, u r k * s r : ℝ) : EReal) ↔ u r e < u r e' :=
    fun r e e' => by rw [EReal.coe_lt_coe_iff, div_lt_div_iff_of_pos_right (hn r), mul_lt_mul_iff_left₀ (hs r)]
  have hval : ∀ r (k : Fin 3), val_main_values x0 x1 x2 x3 x4 x5 x6 x7 x8 (ix2 r k)
      = ((u r (π r ⟨k.val, by omega⟩) * s r / ∑ k, u r k * s r : ℝ) : EReal) := fun r k => (hv r k).trans (hc r _)
  have h01' : ∀ r, u r (π r 1) < u r (π r 0) := fun r => (hiff r _ _).mp (by have := h01 r; rwa [hval, hval] at this)
  have h12' : ∀ r, u r (π r 2) < u r (π r 1) := fun r => (hiff r _ _).mp (by have := h12 r; rwa [hval, hval] at this)
  have h23 : ∀ r, u r (π r 3) ≤ u r (π r 2) := fun r => by
    have := hmono r 2 3 (by decide)
    rw [hc, hc] at this
    exact not_lt.mp fun q => absurd ((hiff r _ _).mpr q) (not_lt.mpr this)
  have top : ∀ r, Top2 (u r) (π r 0) (π r 1) := fun r => ⟨h0 r, (h0 r _).trans_lt (h12' r), h01' r, fun e h0 h1 => by
    obtain ⟨i, rfl⟩ := (Finite.injective_iff_surjective.mp (hinj r)) e
    match i with
    | ⟨0, _⟩ => exact absurd rfl h0
    | ⟨1, _⟩ => exact absurd rfl h1
    | ⟨2, _⟩ => exact h12' r
    | ⟨3, _⟩ => exact (h23 r).trans_lt (h12' r)⟩
  refine ⟨fun r => π r 0, fun r => π r 1, top, fun r e => ?_⟩
  rw [v100 (i := fun r k => π r ⟨k.val, by omega⟩) (fun r k => hw r ⟨k.val, by omega⟩) (fun r h => absurd (hinj r h) (by decide))
    (fun r k => v82 (p := fun e => u r e * s r / ∑ k, u r k * s r) r (hval r 0) (hval r 1)
      (fun e => div_nonneg (mul_nonneg (h0 r e) (hs r).le) (hn r).le) k)]
  congr 1
  let P : Fin 4 → ℝ := fun e => u r e * s r / ∑ k, u r k * s r
  show (if e = π r 0 then P (π r 0) / (P (π r 0) + P (π r 1) + eps6)
    else if e = π r 1 then P (π r 1) / (P (π r 0) + P (π r 1) + eps6) else 0) = gate (u r) (π r 0) (π r 1) e
  have hg : ∀ e, P e / (P (π r 0) + P (π r 1) + eps6) = u r e / den (u r) (π r 0) (π r 1) := fun e =>
    gate_soft (top r) (hs r) e
  rw [hg, hg]
  unfold gate
  by_cases h0 : e = π r 0
  · rw [if_pos h0, if_pos (Or.inl h0), h0]
  · rw [if_neg h0]
    by_cases h1 : e = π r 1
    · rw [if_pos h1, if_pos (Or.inr h1), h1]
    · rw [if_neg h1, if_neg (not_or.mpr ⟨h0, h1⟩)]

end Cert.RGate

end
-- ==== Proof.RRest.lean ====
/-
  What the reference computes from the gates on: the balancing loss, the two scaled and shifted inputs and their mean.
-/
module

public import proofs.«01_k».proof.Proof.RRow

@[expose] public section

set_option maxRecDepth 16384

noncomputable section

namespace Cert.RRest

open Idealize.ShloMosaic Cert.ReferenceIdeal Cert.ReferenceIdeal.Gen Cert.ReferenceIdeal.Read Cert.Consts Cert.Model Cert.RRow

variable {x0 x1 : (⟨S4x2048x1024, .f32⟩ : BufTy).Contents (Elt Ideal)} {x2 : (⟨S_, .i32⟩ : BufTy).Contents (Elt Ideal)}
  {x3 x4 : (⟨S2048, .f32⟩ : BufTy).Contents (Elt Ideal)} {x5 : (⟨S256x2048, .f32⟩ : BufTy).Contents (Elt Ideal)}
  {x6 x7 : (⟨S256, .f32⟩ : BufTy).Contents (Elt Ideal)} {x8 : (⟨S3x256x4, .f32⟩ : BufTy).Contents (Elt Ideal)}
  {x9 : (⟨S4x32x256, .f32⟩ : BufTy).Contents (Elt Ideal)} {x10 : (⟨S4x32, .f32⟩ : BufTy).Contents (Elt Ideal)}
  {x11 : (⟨S4x256x32, .f32⟩ : BufTy).Contents (Elt Ideal)} {x12 : (⟨S4x256, .f32⟩ : BufTy).Contents (Elt Ideal)}
  {x13 : (⟨S6x1024, .f32⟩ : BufTy).Contents (Elt Ideal)}
  {gt : Fin 8192 → Fin 4 → ℝ}

theorem v101 (hg : ∀ r e, val_main_v100 x0 x1 x2 x3 x4 x5 x6 x7 x8 (ix2 r e) = ((gt r e : ℝ) : EReal)) (e : Fin 4) :
    val_main_v101 x0 x1 x2 x3 x4 x5 x6 x7 x8 (ix1 e) = ((∑ r, gt r e : ℝ) : EReal) := by
  pointwise [val_main_v101, val_main_cst_30]
  simp only [hg, sum_coe]

theorem v105 (hg : ∀ r e, val_main_v100 x0 x1 x2 x3 x4 x5 x6 x7 x8 (ix2 r e) = ((gt r e : ℝ) : EReal)) (e : Fin 4) :
    val_main_v105 x0 x1 x2 x3 x4 x5 x6 x7 x8 (ix1 e) = ((∑ r, (if 0 < gt r e then 1 else 0) : ℝ) : EReal) := by
  pointwise [val_main_v105, val_main_v104, val_main_v103, val_main_v102, val_main_cst_31, val_main_cst_32]
  have hw : ∀ r, FloatOps.uitofp (F := Ideal) .f32 (BitVec.ofBool (decide (0 < val_main_v100 x0 x1 x2 x3 x4 x5 x6 x7 x8 (ix2 r e))))
      = (((if 0 < gt r e then 1 else 0 : ℝ)) : EReal) := fun r => by
    rw [hg]
    by_cases h : 0 < gt r e
    · rw [if_pos h, decide_eq_true (EReal.coe_pos.mpr h)]
      show (((1 : ℕ) : ℝ) : EReal) = _
      rw [Nat.cast_one]
    · rw [if_neg h, decide_eq_false fun q => h (EReal.coe_pos.mp q)]
      show (((0 : ℕ) : ℝ) : EReal) = _
      rw [Nat.cast_zero]
  simp only [hw, sum_coe]

theorem v111_mean {A : Fin 4 → ℝ} (hA : ∀ e, val_main_v101 x0 x1 x2 x3 x4 x5 x6 x7 x8 (ix1 e) = ((A e : ℝ) : EReal)) (e : Fin 4) :
    val_main_call0_v5 x0 x1 x2 x3 x4 x5 x6 x7 x8 (ix1 e) = ((A e - (∑ e, A e) / 4 : ℝ) : EReal) := by
  pointwise [val_main_call0_v5, val_main_call0_v4, val_main_call0_v3,
    val_main_call0_v2, val_main_call0_v1, val_main_call0_v0, val_main_call0_cst, val_main_call0_cst_0]
  simp only [hA, bits_4, sum_coe, div_real _ (by norm_num : (4 : ℝ) ≠ 0), ← EReal.coe_sub]

theorem v106 {A : Fin 4 → ℝ} (hA : ∀ e, val_main_v101 x0 x1 x2 x3 x4 x5 x6 x7 x8 (ix1 e) = ((A e : ℝ) : EReal)) (i : S_.Idx) :
    val_main_v106 x0 x1 x2 x3 x4 x5 x6 x7 x8 i
      = (((∑ e, (A e - (∑ e, A e) / 4) * (A e - (∑ e, A e) / 4)) / 3 : ℝ) : EReal) := by
  have h1 : FloatOps.sitofp (F := Ideal) .f32 (1#32) = ((1 : ℝ) : EReal) := by
    show (((1 : ℤ) : ℝ) : EReal) = _
    rw [Int.cast_one]
  have h3 : ((4 : ℝ) : EReal) - ((1 : ℝ) : EReal) = ((3 : ℝ) : EReal) := by rw [← EReal.coe_sub]; norm_num
  pointwise [val_main_v106, val_main_call0_v11, val_main_call0_v10,
    val_main_call0_v9, val_main_call0_v8, val_main_call0_v7, val_main_call0_v6, val_main_call0_cst_1, val_main_call0_cst_2,
    val_main_call0_cst_3, val_main_c_33]
  simp only [v111_mean hA, h1, bits_4, h3, sum_coe, ← EReal.coe_mul, div_real _ (by norm_num : (3 : ℝ) ≠ 0)]
  rw [if_pos (EReal.coe_pos.mpr (by norm_num : (0 : ℝ) < 3))]

theorem v111 {A : Fin 4 → ℝ} (hA : ∀ e, val_main_v101 x0 x1 x2 x3 x4 x5 x6 x7 x8 (ix1 e) = ((A e : ℝ) : EReal)) (i : S_.Idx) :
    val_main_v111 x0 x1 x2 x3 x4 x5 x6 x7 x8 i = ((cv A : ℝ) : EReal) := by
  pointwise [val_main_v111, val_main_v110, val_main_v109, val_main_v108, val_main_v107, val_main_cst_34, val_main_cst_35, val_main_cst_36]
  simp only [v106 hA, hA, bits_4, bits_eps10, sum_coe, div_real _ (by norm_num : (4 : ℝ) ≠ 0), ← EReal.coe_mul, ← EReal.coe_add,
    div_real _ (cv_den_pos _).ne']
  rfl

theorem v117_mean {A : Fin 4 → ℝ} (hA : ∀ e, val_main_v105 x0 x1 x2 x3 x4 x5 x6 x7 x8 (ix1 e) = ((A e : ℝ) : EReal)) (e : Fin 4) :
    val_main_call1_v5 x0 x1 x2 x3 x4 x5 x6 x7 x8 (ix1 e) = ((A e - (∑ e, A e) / 4 : ℝ) : EReal) := by
  pointwise [val_main_call1_v5, val_main_call1_v4, val_main_call1_v3,
    val_main_call1_v2, val_main_call1_v1, val_main_call1_v0, val_main_call1_cst, val_main_call1_cst_0]
  simp only [hA, bits_4, sum_coe, div_real _ (by norm_num : (4 : ℝ) ≠ 0), ← EReal.coe_sub]

theorem v112 {A : Fin 4 → ℝ} (hA : ∀ e, val_main_v105 x0 x1 x2 x3 x4 x5 x6 x7 x8 (ix1 e) = ((A e : ℝ) : EReal)) (i : S_.Idx) :
    val_main_v112 x0 x1 x2 x3 x4 x5 x6 x7 x8 i
      = (((∑ e, (A e - (∑ e, A e) / 4) * (A e - (∑ e, A e) / 4)) / 3 : ℝ) : EReal) := by
  have h1 : FloatOps.sitofp (F := Ideal) .f32 (1#32) = ((1 : ℝ) : EReal) := by
    show (((1 : ℤ) : ℝ) : EReal) = _
    rw [Int.cast_one]
  have h3 : ((4 : ℝ) : EReal) - ((1 : ℝ) : EReal) = ((3 : ℝ) : EReal) := by rw [← EReal.coe_sub]; norm_num
  pointwise [val_main_v112, val_main_call1_v11, val_main_call1_v10,
    val_main_call1_v9, val_main_call1_v8, val_main_call1_v7, val_main_call1_v6, val_main_call1_cst_1, val_main_call1_cst_2,
    val_main_call1_cst_3, val_main_c_37]
  simp only [v117_mean hA, h1, bits_4, h3, sum_coe, ← EReal.coe_mul, div_real _ (by norm_num : (3 : ℝ) ≠ 0)]
  rw [if_pos (EReal.coe_pos.mpr (by norm_num : (0 : ℝ) < 3))]

theorem v117 {A : Fin 4 → ℝ} (hA : ∀ e, val_main_v105 x0 x1 x2 x3 x4 x5 x6 x7 x8 (ix1 e) = ((A e : ℝ) : EReal)) (i : S_.Idx) :
    val_main_v117 x0 x1 x2 x3 x4 x5 x6 x7 x8 i = ((cv A : ℝ) : EReal) := by
  pointwise [val_main_v117, val_main_v116, val_main_v115, val_main_v114, val_main_v113, val_main_cst_38, val_main_cst_39, val_main_cst_40]
  simp only [v112 hA, hA, bits_4, bits_eps10, sum_coe, div_real _ (by norm_num : (4 : ℝ) ≠ 0), ← EReal.coe_mul, ← EReal.coe_add,
    div_real _ (cv_den_pos _).ne']
  rfl

theorem v119 {A B : Fin 4 → ℝ} (hA : ∀ e, val_main_v101 x0 x1 x2 x3 x4 x5 x6 x7 x8 (ix1 e) = ((A e : ℝ) : EReal))
    (hB : ∀ e, val_main_v105 x0 x1 x2 x3 x4 x5 x6 x7 x8 (ix1 e) = ((B e : ℝ) : EReal)) (i : S1x1.Idx) :
    val_main_v190 x0 x1 x2 x3 x4 x5 x6 x7 x8 i = (((cv A + cv B) * cent : ℝ) : EReal) := by
  have h : ∀ i, val_main_v119 x0 x1 x2 x3 x4 x5 x6 x7 x8 i = (((cv A + cv B) * cent : ℝ) : EReal) := fun i => by
    pointwise [val_main_v119, val_main_v118, val_main_cst_41]
    simp only [v111 hA, v117 hB, bits_cent, ← EReal.coe_add, ← EReal.coe_mul]
  unfold val_main_v190
  exact h _

variable {sx st : Fin 4 → Fin 2048 → EReal}

theorem v168 (hs : ∀ b n, val_main_v143 x0 x1 x2 x3 x4 x5 x6 x7 x8 x9 x10 x11 x12 (ix3 b n 0) = sx b n)
    (b : Fin 4) (n : Fin 2048) (k : Fin 1024) :
    val_main_v168 x0 x1 x2 x3 x4 x5 x6 x7 x8 x9 x10 x11 x12 x13 (ix3 b n k)
      = sx b n * x0 (ix3 b n k) + val_main_v164 x2 x13 (ix2 0 k) := by
  pointwise [val_main_v168, val_main_v167, val_main_v166, val_main_v165, val_main_v155, val_main_v154]
  rw [hs]

theorem v183 (hs : ∀ b n, val_main_v153 x0 x1 x2 x3 x4 x5 x6 x7 x8 x9 x10 x11 x12 (ix3 b n 0) = st b n)
    (b : Fin 4) (n : Fin 2048) (k : Fin 1024) :
    val_main_v183 x0 x1 x2 x3 x4 x5 x6 x7 x8 x9 x10 x11 x12 x13 (ix3 b n k)
      = st b n * x1 (ix3 b n k) + val_main_v179 x2 x13 (ix2 0 k) := by
  pointwise [val_main_v183, val_main_v182, val_main_v181, val_main_v180, val_main_v170, val_main_v169]
  rw [hs]

theorem v191 (r : Fin 8192) (k : Fin 1024) : val_main_v191 x0 x1 x2 x3 x4 x5 x6 x7 x8 x9 x10 x11 x12 x13 (ix2 r k)
    = val_main_v168 x0 x1 x2 x3 x4 x5 x6 x7 x8 x9 x10 x11 x12 x13 (ix3 (rb r) (rn r) k) := by
  pointwise [val_main_v191]
  rfl

theorem v192 (r : Fin 8192) (k : Fin 1024) : val_main_v192 x0 x1 x2 x3 x4 x5 x6 x7 x8 x9 x10 x11 x12 x13 (ix2 r k)
    = val_main_v183 x0 x1 x2 x3 x4 x5 x6 x7 x8 x9 x10 x11 x12 x13 (ix3 (rb r) (rn r) k) := by
  pointwise [val_main_v192]
  rfl

theorem v189 (r : Fin 8192) (k : Fin 1024) : val_main_v189 x0 x1 x2 x3 x4 x5 x6 x7 x8 x9 x10 x11 x12 x13 (ix2 r k)
    = ((1 / 2 : ℝ) : EReal) * val_main_v168 x0 x1 x2 x3 x4 x5 x6 x7 x8 x9 x10 x11 x12 x13 (ix3 (rb r) (rn r) k)
      + ((1 / 2 : ℝ) : EReal) * val_main_v183 x0 x1 x2 x3 x4 x5 x6 x7 x8 x9 x10 x11 x12 x13 (ix3 (rb r) (rn r) k) := by
  pointwise [val_main_v189, val_main_v188, val_main_v187, val_main_v186, val_main_v185, val_main_v184, val_main_cst_68, val_main_cst_69]
  rw [bits_half]
  rfl

end Cert.RRest

end
-- ==== Proof.Data.lean ====
/-
  The numbers a launch is about, what both programs compute from them for each of the 8192 tokens, and what it
  means for the argument arrays to hold them.
-/
module

public import proofs.«01_k».proof.Proof.Model
public import proofs.«01_k».proof.Proof.RGate
public import proofs.«01_k».proof.Proof.RRest

@[expose] public section

noncomputable section

namespace Cert.Data

open Idealize.ShloMosaic Idealize.ShloMosaic.TcCoe Cert.ReferenceIdeal Cert.Consts Cert.Model Cert.RRow

/-- The numbers in the arguments, and the two experts chosen for each token. -/
structure Reals where
  x : Fin 4 → Fin 2048 → Fin 1024 → ℝ
  t : Fin 4 → Fin 2048 → Fin 1024 → ℝ
  w : Fin 256 → Fin 2048 → EReal
  /-- Every token, reduced. -/
  y : Fin 8192 → Fin 256 → ℝ
  g : Fin 256 → Fin 4 → EReal
  /-- The exponentials of every token's logits. -/
  u : Fin 8192 → Fin 4 → ℝ
  f1 : Fin 4 → Fin 32 → Fin 256 → ℝ
  f2 : Fin 4 → Fin 256 → Fin 32 → EReal
  a : Fin 8192 → Fin 4
  b : Fin 8192 → Fin 4

namespace Reals

variable (D : Reals)

def wx (o : Fin 256) (k : Fin 1024) : EReal := D.w o ⟨k.val, by omega⟩
def wt (o : Fin 256) (k : Fin 1024) : EReal := D.w o ⟨1024 + k.val, by omega⟩
/-- Token `r`, reduced and normalized. -/
def Z (r : Fin 8192) : Fin 256 → ℝ := zv (D.y r)
/-- Its gates. -/
def G (r : Fin 8192) : Fin 4 → ℝ := gate (D.u r) (D.a r) (D.b r)
/-- Its factor of the first modality. -/
def sx (r : Fin 8192) : EReal := Ideal.logistic (psum (hid D.f1 (D.Z r)) (D.G r) (w2 fun e o h => D.f2 e ⟨o.val, by omega⟩ h))
/-- Its factor of the second modality. -/
def st (r : Fin 8192) : EReal := Ideal.logistic (psum (hid D.f1 (D.Z r)) (D.G r) (w2 fun e o h => D.f2 e ⟨128 + o.val, by omega⟩ h))
/-- How much weight expert `e` is given. -/
def imp (e : Fin 4) : ℝ := ∑ r, D.G r e
/-- How many tokens expert `e` is given. -/
def load (e : Fin 4) : ℝ := ∑ r, sel (D.a r) (D.b r) e
/-- The balance loss. -/
def aux : ℝ := (cv D.imp + cv D.load) * cent

end Reals

/-- The arguments hold the numbers, and the two chosen experts are the two with the largest logits. -/
structure Fits (D : Reals) (x0 x1 : FVec Ideal S4x2048x1024 .f32) (x2 : IVec S_ 32) (x5 : FVec Ideal S256x2048 .f32)
    (x8 : FVec Ideal S3x256x4 .f32) (x9 : FVec Ideal S4x32x256 .f32) (x11 : FVec Ideal S4x256x32 .f32) : Prop where
  hx : ∀ b n k, x0 (ix3 b n k) = ((D.x b n k : ℝ) : EReal)
  ht : ∀ b n k, x1 (ix3 b n k) = ((D.t b n k : ℝ) : EReal)
  hw : ∀ o k, x5 (ix2 o k) = D.w o k
  hy : ∀ r o, yv (D.x (rb r) (rn r)) (D.t (rb r) (rn r)) D.wx D.wt o = ((D.y r o : ℝ) : EReal)
  hg : ∀ k e, Read.val_main_v62 (F := Ideal) x2 x8 (ix2 k e) = D.g k e
  hu : ∀ r e, Ideal.exp (lg D.g (D.Z r) e) = ((D.u r e : ℝ) : EReal)
  hf1 : ∀ e h k, x9 (ix3 e h k) = ((D.f1 e h k : ℝ) : EReal)
  hf2 : ∀ e o h, x11 (ix3 e o h) = D.f2 e o h
  top : ∀ r, Top2 (D.u r) (D.a r) (D.b r)

end Cert.Data

end
-- ==== Proof.KBody.lean ====
/-
  What the kernel leaves in its results, number by number: the blocks it reads, the values of one point, the running
  totals over the points, and the four arrays at the end.
-/
module

public import proofs.«01_k».proof.Proof.KCase
public import proofs.«01_k».proof.Proof.KPay
public import proofs.«01_k».proof.Proof.KHost
public import proofs.«01_k».proof.Proof.Data

@[expose] public section

set_option maxRecDepth 16384

noncomputable section

namespace Cert.KBody

open Idealize.ShloMosaic Idealize.ShloMosaic.TcCoe Idealize.SL.Sem Cert.KernelIdeal Cert.KernelIdeal.Gen
open Cert.Consts Cert.Model Cert.Data Cert.RRow Cert.KCase

/-! ## The blocks -/

section Blocks

variable (m : (ℓ : Loc nD τ sig) → Buf (Elt Ideal) ℓ) (c : Dev nD)

theorem lt8 (t : Fin cfg0.N) : t.val < 8 := lt_of_lt_of_eq t.isLt N_0

/-- Token `r` of block `t`. -/
def tok (t : Fin cfg0.N) (r : Fin 1024) : Fin 8192 := ⟨t.val * 1024 + r.val, by have := lt8 t; omega⟩

theorem idx0 (t : Fin cfg0.N) : win0_0.index t 0 = t.val ∧ win0_0.index t 1 = 0 := by
  rcases fin_N0 t with h | h | h | h | h | h | h | h <;> subst h <;> decide
theorem idx1 (t : Fin cfg0.N) : win0_1.index t 0 = t.val ∧ win0_1.index t 1 = 0 := by
  rcases fin_N0 t with h | h | h | h | h | h | h | h <;> subst h <;> decide

theorem blk0 (t : Fin cfg0.N) (r k : Fin 1024) : iblk m c 0 t (ix2 r k) = V m c main_v0 (ix2 (tok t r) k) := by
  unfold iblk
  rw [View.read_apply]
  show V m c main_v0 _ = V m c main_v0 (ix2 (tok t r) k)
  congr 1
  funext a
  apply Fin.ext
  have h := idx0 t
  match a with
  | ⟨0, _⟩ => show win0_0.index t 0 * 1024 + 1 * r.val = t.val * 1024 + r.val; rw [h.1]; omega
  | ⟨1, _⟩ => show win0_0.index t 1 * 1024 + 1 * k.val = k.val; rw [h.2]; omega

theorem blk1 (t : Fin cfg0.N) (r k : Fin 1024) : iblk m c 1 t (ix2 r k) = V m c main_v1 (ix2 (tok t r) k) := by
  unfold iblk
  rw [View.read_apply]
  show V m c main_v1 _ = V m c main_v1 (ix2 (tok t r) k)
  congr 1
  funext a
  apply Fin.ext
  have h := idx1 t
  match a with
  | ⟨0, _⟩ => show win0_1.index t 0 * 1024 + 1 * r.val = t.val * 1024 + r.val; rw [h.1]; omega
  | ⟨1, _⟩ => show win0_1.index t 1 * 1024 + 1 * k.val = k.val; rw [h.2]; omega

theorem blk2 (t : Fin cfg0.N) (r : Fin 1024) (k : Fin 256) : iblk m c 2 t (ix2 r k) = V m c main_v31 (ix2 r k) := by
  have h : win0_2.index t 0 = 0 ∧ win0_2.index t 1 = 0 := by
    rcases fin_N0 t with h | h | h | h | h | h | h | h <;> subst h <;> decide
  unfold iblk
  rw [View.read_apply]
  show V m c main_v31 _ = V m c main_v31 (ix2 r k)
  congr 1
  funext a
  apply Fin.ext
  match a with
  | ⟨0, _⟩ => show win0_2.index t 0 * 1024 + 1 * r.val = r.val; rw [h.1]; omega
  | ⟨1, _⟩ => show win0_2.index t 1 * 256 + 1 * k.val = k.val; rw [h.2]; omega

theorem blk3 (t : Fin cfg0.N) (r : Fin 1024) (k : Fin 256) : iblk m c 3 t (ix2 r k) = V m c main_v32 (ix2 r k) := by
  have h : win0_3.index t 0 = 0 ∧ win0_3.index t 1 = 0 := by
    rcases fin_N0 t with h | h | h | h | h | h | h | h <;> subst h <;> decide
  unfold iblk
  rw [View.read_apply]
  show V m c main_v32 _ = V m c main_v32 (ix2 r k)
  congr 1
  funext a
  apply Fin.ext
  match a with
  | ⟨0, _⟩ => show win0_3.index t 0 * 1024 + 1 * r.val = r.val; rw [h.1]; omega
  | ⟨1, _⟩ => show win0_3.index t 1 * 256 + 1 * k.val = k.val; rw [h.2]; omega

theorem blk4 (t : Fin cfg0.N) (r : Fin 256) (k : Fin 128) : iblk m c 4 t (ix2 r k) = V m c main_v4 (ix2 r k) := by
  have h : win0_4.index t 0 = 0 ∧ win0_4.index t 1 = 0 := by
    rcases fin_N0 t with h | h | h | h | h | h | h | h <;> subst h <;> decide
  unfold iblk
  rw [View.read_apply]
  show V m c main_v4 _ = V m c main_v4 (ix2 r k)
  congr 1
  funext a
  apply Fin.ext
  match a with
  | ⟨0, _⟩ => show win0_4.index t 0 * 256 + 1 * r.val = r.val; rw [h.1]; omega
  | ⟨1, _⟩ => show win0_4.index t 1 * 128 + 1 * k.val = k.val; rw [h.2]; omega

theorem blk5 (t : Fin cfg0.N) (r : Fin 256) (k : Fin 128) : iblk m c 5 t (ix2 r k) = V m c main_v6 (ix2 r k) := by
  have h : win0_5.index t 0 = 0 ∧ win0_5.index t 1 = 0 := by
    rcases fin_N0 t with h | h | h | h | h | h | h | h <;> subst h <;> decide
  unfold iblk
  rw [View.read_apply]
  show V m c main_v6 _ = V m c main_v6 (ix2 r k)
  congr 1
  funext a
  apply Fin.ext
  match a with
  | ⟨0, _⟩ => show win0_5.index t 0 * 256 + 1 * r.val = r.val; rw [h.1]; omega
  | ⟨1, _⟩ => show win0_5.index t 1 * 128 + 1 * k.val = k.val; rw [h.2]; omega

theorem blk6 (t : Fin cfg0.N) (r : Fin 1) (k : Fin 128) : iblk m c 6 t (ix2 r k) = V m c main_v13 (ix2 r k) := by
  have h : win0_6.index t 0 = 0 ∧ win0_6.index t 1 = 0 := by
    rcases fin_N0 t with h | h | h | h | h | h | h | h <;> subst h <;> decide
  unfold iblk
  rw [View.read_apply]
  show V m c main_v13 _ = V m c main_v13 (ix2 r k)
  congr 1
  funext a
  apply Fin.ext
  match a with
  | ⟨0, _⟩ => show win0_6.index t 0 * 1 + 1 * r.val = r.val; rw [h.1]; omega
  | ⟨1, _⟩ => show win0_6.index t 1 * 128 + 1 * k.val = k.val; rw [h.2]; omega

theorem blk7 (t : Fin cfg0.N) (r : Fin 1) (k : Fin 128) : iblk m c 7 t (ix2 r k) = V m c main_v18 (ix2 r k) := by
  have h : win0_7.index t 0 = 0 ∧ win0_7.index t 1 = 0 := by
    rcases fin_N0 t with h | h | h | h | h | h | h | h <;> subst h <;> decide
  unfold iblk
  rw [View.read_apply]
  show V m c main_v18 _ = V m c main_v18 (ix2 r k)
  congr 1
  funext a
  apply Fin.ext
  match a with
  | ⟨0, _⟩ => show win0_7.index t 0 * 1 + 1 * r.val = r.val; rw [h.1]; omega
  | ⟨1, _⟩ => show win0_7.index t 1 * 128 + 1 * k.val = k.val; rw [h.2]; omega

theorem blk8 (t : Fin cfg0.N) (r : Fin 1) (k : Fin 1024) : iblk m c 8 t (ix2 r k) = V m c main_v23 (ix2 r k) := by
  have h : win0_8.index t 0 = 0 ∧ win0_8.index t 1 = 0 := by
    rcases fin_N0 t with h | h | h | h | h | h | h | h <;> subst h <;> decide
  unfold iblk
  rw [View.read_apply]
  show V m c main_v23 _ = V m c main_v23 (ix2 r k)
  congr 1
  funext a
  apply Fin.ext
  match a with
  | ⟨0, _⟩ => show win0_8.index t 0 * 1 + 1 * r.val = r.val; rw [h.1]; omega
  | ⟨1, _⟩ => show win0_8.index t 1 * 1024 + 1 * k.val = k.val; rw [h.2]; omega

theorem blk9 (t : Fin cfg0.N) (r : Fin 1) (k : Fin 1024) : iblk m c 9 t (ix2 r k) = V m c main_v29 (ix2 r k) := by
  have h : win0_9.index t 0 = 0 ∧ win0_9.index t 1 = 0 := by
    rcases fin_N0 t with h | h | h | h | h | h | h | h <;> subst h <;> decide
  unfold iblk
  rw [View.read_apply]
  show V m c main_v29 _ = V m c main_v29 (ix2 r k)
  congr 1
  funext a
  apply Fin.ext
  match a with
  | ⟨0, _⟩ => show win0_9.index t 0 * 1 + 1 * r.val = r.val; rw [h.1]; omega
  | ⟨1, _⟩ => show win0_9.index t 1 * 1024 + 1 * k.val = k.val; rw [h.2]; omega

end Blocks

end Cert.KBody

end
-- ==== Proof.KPoint.lean ====
/-
  The values of one point of the grid in terms of the tokens of its block.
-/
module

public import proofs.«01_k».proof.Proof.KBody

@[expose] public section

set_option maxRecDepth 16384

noncomputable section

namespace Cert.KPoint

open Idealize.ShloMosaic Idealize.ShloMosaic.TcCoe Idealize.SL.Sem Cert.KernelIdeal Cert.KernelIdeal.Gen
open Cert.Consts Cert.Model Cert.Data Cert.RRow Cert.KCase Cert.KBody

variable (m : (ℓ : Loc nD τ sig) → Buf (Elt Ideal) ℓ) (c : Dev nD)

/-- The launched memory holds the numbers. -/
abbrev Holds (D : Reals) : Prop :=
  Fits D (m ((c.tc : Thread nD τ).loc main_arg0)) (m ((c.tc : Thread nD τ).loc main_arg1))
    (m ((c.tc : Thread nD τ).loc main_arg2)) (m ((c.tc : Thread nD τ).loc main_arg5)) (m ((c.tc : Thread nD τ).loc main_arg8))
    (m ((c.tc : Thread nD τ).loc main_arg9)) (m ((c.tc : Thread nD τ).loc main_arg11))

variable {m c} {D : Reals} (H : Holds m c D)

include H

theorem x_at (t : Fin cfg0.N) (r k : Fin 1024) :
    iblk m c 0 t (ix2 r k) = ((D.x (rb (tok t r)) (rn (tok t r)) k : ℝ) : EReal) :=
  (blk0 m c t r k).trans ((KHost.V_v0 m c _ _).trans (H.hx _ _ _))

theorem t_at (t : Fin cfg0.N) (r k : Fin 1024) :
    iblk m c 1 t (ix2 r k) = ((D.t (rb (tok t r)) (rn (tok t r)) k : ℝ) : EReal) :=
  (blk1 m c t r k).trans ((KHost.V_v1 m c _ _).trans (H.ht _ _ _))

theorem wx_at (t : Fin cfg0.N) (k : Fin 1024) (o : Fin 256) : iblk m c 2 t (ix2 k o) = D.wx o k :=
  (blk2 m c t k o).trans ((KHost.V_v31 m c _ _).trans (H.hw _ _))

theorem wt_at (t : Fin cfg0.N) (k : Fin 1024) (o : Fin 256) : iblk m c 3 t (ix2 k o) = D.wt o k :=
  (blk3 m c t k o).trans ((KHost.V_v32 m c _ _).trans (H.hw _ _))

theorem g_at (t : Fin cfg0.N) (k : Fin 256) (j : Fin 128) : iblk m c 4 t (ix2 k j) = D.g k (le j) :=
  (blk4 m c t k j).trans ((KHost.V_v4 m c _ _).trans (H.hg _ _))

theorem f1_at (t : Fin cfg0.N) (k : Fin 256) (j : Fin 128) : iblk m c 5 t (ix2 k j) = ((D.f1 (le j) (lh j) k : ℝ) : EReal) :=
  (blk5 m c t k j).trans ((KHost.V_v6 m c _ _).trans (H.hf1 _ _ _))

theorem w2x_at (t : Fin cfg0.N) (j : Fin 128) :
    iblk m c 6 t (ix2 0 j) = w2 (fun e o h => D.f2 e ⟨o.val, by omega⟩ h) (le j) (lh j) :=
  (blk6 m c t 0 j).trans (KHost.V_v13 m c _ H.hf2)

theorem w2t_at (t : Fin cfg0.N) (j : Fin 128) :
    iblk m c 7 t (ix2 0 j) = w2 (fun e o h => D.f2 e ⟨128 + o.val, by omega⟩ h) (le j) (lh j) :=
  (blk7 m c t 0 j).trans (KHost.V_v18 m c _ H.hf2)

theorem y_at (t : Fin cfg0.N) (r : Fin 1024) (o : Fin 256) :
    k0_pay7 (iblk m c 0 t) (iblk m c 1 t) (iblk m c 2 t) (iblk m c 3 t) (ix2 r o) = ((D.y (tok t r) o : ℝ) : EReal) :=
  (KPay.pay7 (x_at H t) (t_at H t) (wx_at H t) (wt_at H t) r o).trans (H.hy _ _)

theorem ys_at (t : Fin cfg0.N) (r : Fin 1024) :
    k0_pay8 (iblk m c 0 t) (iblk m c 1 t) (iblk m c 2 t) (iblk m c 3 t) (ix1 r) = ((∑ o, D.y (tok t r) o : ℝ) : EReal) :=
  (KPay.pay8 _ _ _ _ r).trans ((Finset.sum_congr rfl fun o _ => y_at H t r o).trans (sum_coe _ _))

theorem kz_at (t : Fin cfg0.N) (r : Fin 1024) (o : Fin 256) :
    kz (iblk m c 0 t) (iblk m c 1 t) (iblk m c 2 t) (iblk m c 3 t) (ix2 r o) = ((D.Z (tok t r) o : ℝ) : EReal) :=
  KPay.pay9 (y_at H t) (ys_at H t) r o

theorem km_at (t : Fin cfg0.N) (r : Fin 1024) (j : Fin 128) :
    km (iblk m c 0 t) (iblk m c 1 t) (iblk m c 2 t) (iblk m c 3 t) (iblk m c 4 t) (ix2 r j)
      = if le j = D.a (tok t r) ∨ le j = D.b (tok t r) then 1#1 else 0#1 :=
  KPay.pay11 (y_at H t) (ys_at H t) (g_at H t) (fun r => H.hu (tok t r)) r j (H.top (tok t r))

theorem kg_at (t : Fin cfg0.N) (r : Fin 1024) (j : Fin 128) :
    kg (iblk m c 0 t) (iblk m c 1 t) (iblk m c 2 t) (iblk m c 3 t) (iblk m c 4 t) (ix2 r j)
      = ((D.G (tok t r) (le j) : ℝ) : EReal) :=
  KPay.pay12 (y_at H t) (ys_at H t) (g_at H t) (fun r => H.hu (tok t r)) r j (H.top (tok t r))

theorem kh_at (t : Fin cfg0.N) (r : Fin 1024) (j : Fin 128) :
    kh (iblk m c 0 t) (iblk m c 1 t) (iblk m c 2 t) (iblk m c 3 t) (iblk m c 4 t) (iblk m c 5 t) (ix2 r j)
      = ((hid D.f1 (D.Z (tok t r)) (le j) (lh j) * D.G (tok t r) (le j) : ℝ) : EReal) :=
  KPay.pay13 (z := fun r => D.Z (tok t r)) (gt := fun r => D.G (tok t r)) (kz_at H t) (kg_at H t) (f1_at H t) r j

theorem ks_at (t : Fin cfg0.N) (r : Fin 1024) :
    ks (iblk m c 0 t) (iblk m c 1 t) (iblk m c 2 t) (iblk m c 3 t) (iblk m c 4 t) (iblk m c 5 t) (iblk m c 6 t) (ix2 r 0)
      = D.sx (tok t r) :=
  KPay.pay18 (z := fun r => D.Z (tok t r)) (gt := fun r => D.G (tok t r)) (kz_at H t) (kg_at H t) (f1_at H t) (w2x_at H t) r

theorem kx_at (t : Fin cfg0.N) (r k : Fin 1024) :
    kx (iblk m c 0 t) (iblk m c 1 t) (iblk m c 2 t) (iblk m c 3 t) (iblk m c 4 t) (iblk m c 5 t) (iblk m c 6 t) (iblk m c 8 t) (ix2 r k)
      = D.sx (tok t r) * ((D.x (rb (tok t r)) (rn (tok t r)) k : ℝ) : EReal) + V m c main_v23 (ix2 0 k) := by
  unfold kx
  rw [KPay.pay1, ks_at H, show k0_pay5 (iblk m c 0 t) = iblk m c 0 t from shapeCast_self _ _, x_at H, blk8]

theorem kt_at (t : Fin cfg0.N) (r k : Fin 1024) :
    kt (iblk m c 0 t) (iblk m c 1 t) (iblk m c 2 t) (iblk m c 3 t) (iblk m c 4 t) (iblk m c 5 t) (iblk m c 7 t) (iblk m c 9 t) (ix2 r k)
      = D.st (tok t r) * ((D.t (rb (tok t r)) (rn (tok t r)) k : ℝ) : EReal) + V m c main_v29 (ix2 0 k) := by
  unfold kt
  rw [show k0_pay6 (iblk m c 1 t) = iblk m c 1 t from shapeCast_self _ _, show k0_pay19 (iblk m c 7 t) = iblk m c 7 t from shapeCast_self _ _,
    KPay.pay2 (q := fun r => hid D.f1 (D.Z (tok t r))) (gt := fun r => D.G (tok t r)) _ (kh_at H t) (w2t_at H t), t_at H, blk9]
  rfl

omit H in
theorem kout_at (x0 x1 : Vec Ideal S1024x1024 .f32) (x2 x3 : Vec Ideal S1024x256 .f32) (x4 x5 : Vec Ideal S256x128 .f32)
    (x6 x7 : Vec Ideal S1x128 .f32) (x8 x9 : Vec Ideal S1x1024 .f32) (r k : Fin 1024) :
    kout x0 x1 x2 x3 x4 x5 x6 x7 x8 x9 (ix2 r k)
      = (kx x0 x1 x2 x3 x4 x5 x6 x8 (ix2 r k) + kt x0 x1 x2 x3 x4 x5 x7 x9 (ix2 r k)) * (((1 / 2 : ℝ)) : EReal) := by
  unfold kout kx kt
  pointwise [k0_pay3]
  rw [bits_half]

/-! ## The totals -/

omit H in
/-- The total of `f` over the tokens of the blocks before `n`. -/
def upto (f : Fin 8192 → ℝ) (n : ℕ) : ℝ := ∑ i ∈ Finset.range (n * 1024), if h : i < 8192 then f ⟨i, h⟩ else 0

omit H in
theorem upto_zero (f : Fin 8192 → ℝ) : upto f 0 = 0 := by unfold upto; simp

omit H in
theorem upto_succ (f : Fin 8192 → ℝ) (t : Fin cfg0.N) : upto f (t.val + 1) = upto f t.val + ∑ r : Fin 1024, f (tok t r) := by
  unfold upto
  rw [Nat.add_mul, Nat.one_mul, Finset.sum_range_add, Finset.sum_range (n := 1024)]
  congr 1
  refine Finset.sum_congr rfl fun r _ => ?_
  have := lt8 t
  rw [dif_pos (by omega)]
  rfl

omit H in
theorem upto_all (f : Fin 8192 → ℝ) : upto f 8 = ∑ r, f r := by
  unfold upto
  rw [show 8 * 1024 = 8192 from rfl, Finset.sum_range]
  exact Finset.sum_congr rfl fun r _ => dif_pos r.isLt

end Cert.KPoint

end
-- ==== Proof.KEnd.lean ====
/-
  The four arrays the kernel leaves, number by number.
-/
module

public import proofs.«01_k».proof.Proof.KPoint

@[expose] public section

set_option maxRecDepth 16384

noncomputable section

namespace Cert.KEnd

open Idealize.ShloMosaic Idealize.ShloMosaic.TcCoe Idealize.SL.Sem Cert.KernelIdeal Cert.KernelIdeal.Gen Cert.KernelIdeal.Value
open Cert.Consts Cert.Model Cert.Data Cert.RRow Cert.KCase Cert.KBody Cert.KPoint

variable (m : (ℓ : Loc nD τ sig) → Buf (Elt Ideal) ℓ) (c : Dev nD)

/-! ## What a point leaves, whichever its case -/

theorem left10 (t : Fin cfg0.N) : (outsAt0 m c t.val t.isLt).1
    = kout (iblk m c 0 t) (iblk m c 1 t) (iblk m c 2 t) (iblk m c 3 t) (iblk m c 4 t) (iblk m c 5 t) (iblk m c 6 t) (iblk m c 7 t) (iblk m c 8 t) (iblk m c 9 t) := by
  have hN := lt8 t
  by_cases h0 : t.val % 8 = 0
  · have h1 : ¬t.val % 8 = 7 := by omega
    have e := congrArg (fun q => q.1) (outsAt0_A m c t h0 h1)
    dsimp only at e
    exact e.trans (out0_A_10_eq _ _ _ _ _ _ _ _ _ _ _ _ _ _ _ _ _ _ _ _ _ _ _ _ _ _ _ _ _ _ _ _ _ _ _ _ _ _ _ _ _ _ _ _ _ _)
  · by_cases h1 : t.val % 8 = 7
    · have e := congrArg (fun q => q.1) (outsAt0_C m c t h0 h1)
      dsimp only at e
      exact e.trans (out0_C_10_eq _ _ _ _ _ _ _ _ _ _ _ _ _ _ _ _ _ _ _ _ _ _ _ _ _ _ _ _ _ _ _ _ _ _ _ _ _ _ _ _ _ _ _ _ _ _ _ _)
    · have e := congrArg (fun q => q.1) (outsAt0_B m c t h0 h1)
      dsimp only at e
      exact e.trans (out0_B_10_eq _ _ _ _ _ _ _ _ _ _ _ _ _ _ _ _ _ _ _ _ _ _ _ _ _ _ _ _ _ _ _ _ _ _ _ _ _ _ _ _ _ _ _ _ _ _ _ _)

theorem left12 (t : Fin cfg0.N) : (outsAt0 m c t.val t.isLt).2.2.1
    = kx (iblk m c 0 t) (iblk m c 1 t) (iblk m c 2 t) (iblk m c 3 t) (iblk m c 4 t) (iblk m c 5 t) (iblk m c 6 t) (iblk m c 8 t) := by
  have hN := lt8 t
  by_cases h0 : t.val % 8 = 0
  · have h1 : ¬t.val % 8 = 7 := by omega
    have e := congrArg (fun q => q.2.2.1) (outsAt0_A m c t h0 h1)
    dsimp only at e
    exact e.trans (out0_A_12_eq _ _ _ _ _ _ _ _ _ _ _ _ _ _ _ _ _ _ _ _ _ _ _ _ _ _ _ _ _ _ _ _ _ _ _ _ _ _ _ _ _ _ _ _ _ _)
  · by_cases h1 : t.val % 8 = 7
    · have e := congrArg (fun q => q.2.2.1) (outsAt0_C m c t h0 h1)
      dsimp only at e
      exact e.trans (out0_C_12_eq _ _ _ _ _ _ _ _ _ _ _ _ _ _ _ _ _ _ _ _ _ _ _ _ _ _ _ _ _ _ _ _ _ _ _ _ _ _ _ _ _ _ _ _ _ _ _ _)
    · have e := congrArg (fun q => q.2.2.1) (outsAt0_B m c t h0 h1)
      dsimp only at e
      exact e.trans (out0_B_12_eq _ _ _ _ _ _ _ _ _ _ _ _ _ _ _ _ _ _ _ _ _ _ _ _ _ _ _ _ _ _ _ _ _ _ _ _ _ _ _ _ _ _ _ _ _ _ _ _)

theorem left13 (t : Fin cfg0.N) : (outsAt0 m c t.val t.isLt).2.2.2.1
    = kt (iblk m c 0 t) (iblk m c 1 t) (iblk m c 2 t) (iblk m c 3 t) (iblk m c 4 t) (iblk m c 5 t) (iblk m c 7 t) (iblk m c 9 t) := by
  have hN := lt8 t
  by_cases h0 : t.val % 8 = 0
  · have h1 : ¬t.val % 8 = 7 := by omega
    have e := congrArg (fun q => q.2.2.2.1) (outsAt0_A m c t h0 h1)
    dsimp only at e
    exact e.trans (out0_A_13_eq _ _ _ _ _ _ _ _ _ _ _ _ _ _ _ _ _ _ _ _ _ _ _ _ _ _ _ _ _ _ _ _ _ _ _ _ _ _ _ _ _ _ _ _ _ _)
  · by_cases h1 : t.val % 8 = 7
    · have e := congrArg (fun q => q.2.2.2.1) (outsAt0_C m c t h0 h1)
      dsimp only at e
      exact e.trans (out0_C_13_eq _ _ _ _ _ _ _ _ _ _ _ _ _ _ _ _ _ _ _ _ _ _ _ _ _ _ _ _ _ _ _ _ _ _ _ _ _ _ _ _ _ _ _ _ _ _ _ _)
    · have e := congrArg (fun q => q.2.2.2.1) (outsAt0_B m c t h0 h1)
      dsimp only at e
      exact e.trans (out0_B_13_eq _ _ _ _ _ _ _ _ _ _ _ _ _ _ _ _ _ _ _ _ _ _ _ _ _ _ _ _ _ _ _ _ _ _ _ _ _ _ _ _ _ _ _ _ _ _ _ _)

theorem first0 (h : 0 < cfg0.N) : (outsAt0 m c 0 h).2.2.2.2.1
    = k0_pay16 (kg (iblk m c 0 ⟨0, h⟩) (iblk m c 1 ⟨0, h⟩) (iblk m c 2 ⟨0, h⟩) (iblk m c 3 ⟨0, h⟩) (iblk m c 4 ⟨0, h⟩)) (k0_pay14 (F := Ideal)) :=
  by
  have e := congrArg (fun q => q.2.2.2.2.1) (outsAt0_A m c ⟨0, h⟩ (Nat.zero_mod _) (by show ¬0 % 8 = 7; omega))
  dsimp only at e
  exact e.trans (sout0_A_0_eq _ _ _ _ _ _ _ _ _ _ _ _ _ _ _ _ _ _ _ _ _ _ _ _ _ _ _ _ _ _ _ _ _ _ _ _ _ _ _ _ _ _ _ _ _ _)

theorem next0 (n : ℕ) (h : n + 1 < cfg0.N) : (outsAt0 m c (n + 1) h).2.2.2.2.1
    = k0_pay16 (kg (iblk m c 0 ⟨n + 1, h⟩) (iblk m c 1 ⟨n + 1, h⟩) (iblk m c 2 ⟨n + 1, h⟩) (iblk m c 3 ⟨n + 1, h⟩) (iblk m c 4 ⟨n + 1, h⟩)) (outsAt0 m c n (Nat.lt_of_succ_lt h)).2.2.2.2.1 := by
  have hN : n + 1 < 8 := lt_of_lt_of_eq h N_0
  have h0 : ¬(n + 1) % 8 = 0 := by omega
  by_cases h1 : (n + 1) % 8 = 7
  · have e := congrArg (fun q => q.2.2.2.2.1) (outsAt0_C m c ⟨n + 1, h⟩ h0 h1)
    dsimp only at e
    exact e.trans (sout0_C_0_eq _ _ _ _ _ _ _ _ _ _ _ _ _ _ _ _ _ _ _ _ _ _ _ _ _ _ _ _ _ _ _ _ _ _ _ _ _ _ _ _ _ _ _ _ _ _ _ _)
  · have e := congrArg (fun q => q.2.2.2.2.1) (outsAt0_B m c ⟨n + 1, h⟩ h0 h1)
    dsimp only at e
    exact e.trans (sout0_B_0_eq _ _ _ _ _ _ _ _ _ _ _ _ _ _ _ _ _ _ _ _ _ _ _ _ _ _ _ _ _ _ _ _ _ _ _ _ _ _ _ _ _ _ _ _ _ _ _ _)

theorem first1 (h : 0 < cfg0.N) : (outsAt0 m c 0 h).2.2.2.2.2
    = k0_pay17 (F := Ideal) (km (iblk m c 0 ⟨0, h⟩) (iblk m c 1 ⟨0, h⟩) (iblk m c 2 ⟨0, h⟩) (iblk m c 3 ⟨0, h⟩) (iblk m c 4 ⟨0, h⟩)) (k0_pay15 (F := Ideal)) :=
  by
  have e := congrArg (fun q => q.2.2.2.2.2) (outsAt0_A m c ⟨0, h⟩ (Nat.zero_mod _) (by show ¬0 % 8 = 7; omega))
  dsimp only at e
  exact e.trans (sout0_A_1_eq _ _ _ _ _ _ _ _ _ _ _ _ _ _ _ _ _ _ _ _ _ _ _ _ _ _ _ _ _ _ _ _ _ _ _ _ _ _ _ _ _ _ _ _ _ _)

theorem next1 (n : ℕ) (h : n + 1 < cfg0.N) : (outsAt0 m c (n + 1) h).2.2.2.2.2
    = k0_pay17 (F := Ideal) (km (iblk m c 0 ⟨n + 1, h⟩) (iblk m c 1 ⟨n + 1, h⟩) (iblk m c 2 ⟨n + 1, h⟩) (iblk m c 3 ⟨n + 1, h⟩) (iblk m c 4 ⟨n + 1, h⟩)) (outsAt0 m c n (Nat.lt_of_succ_lt h)).2.2.2.2.2 := by
  have hN : n + 1 < 8 := lt_of_lt_of_eq h N_0
  have h0 : ¬(n + 1) % 8 = 0 := by omega
  by_cases h1 : (n + 1) % 8 = 7
  · have e := congrArg (fun q => q.2.2.2.2.2) (outsAt0_C m c ⟨n + 1, h⟩ h0 h1)
    dsimp only at e
    exact e.trans (sout0_C_1_eq _ _ _ _ _ _ _ _ _ _ _ _ _ _ _ _ _ _ _ _ _ _ _ _ _ _ _ _ _ _ _ _ _ _ _ _ _ _ _ _ _ _ _ _ _ _ _ _)
  · have e := congrArg (fun q => q.2.2.2.2.2) (outsAt0_B m c ⟨n + 1, h⟩ h0 h1)
    dsimp only at e
    exact e.trans (sout0_B_1_eq _ _ _ _ _ _ _ _ _ _ _ _ _ _ _ _ _ _ _ _ _ _ _ _ _ _ _ _ _ _ _ _ _ _ _ _ _ _ _ _ _ _ _ _ _ _ _ _)

theorem last11 (t : Fin cfg0.N) (h1 : t.val % 8 = 7) : (outsAt0 m c t.val t.isLt).2.1
    = k0_pay4 (outsAt0 m c t.val t.isLt).2.2.2.2.1 (outsAt0 m c t.val t.isLt).2.2.2.2.2 := by
  have h0 : ¬t.val % 8 = 0 := by omega
  have e := outsAt0_C m c t h0 h1
  have e0 := congrArg (fun q => q.2.2.2.2.1) e
  have e1 := congrArg (fun q => q.2.2.2.2.2) e
  have e2 := congrArg (fun q => q.2.1) e
  dsimp only at e0 e1 e2
  rw [e0, e1]
  exact (e2.trans (out0_C_11_eq _ _ _ _ _ _ _ _ _ _ _ _ _ _ _ _ _ _ _ _ _ _ _ _ _ _ _ _ _ _ _ _ _ _ _ _ _ _ _ _ _ _ _ _ _ _ _ _)).trans
    (congrArg₂ (fun a b => k0_pay4 a b) (sout0_C_0_eq _ _ _ _ _ _ _ _ _ _ _ _ _ _ _ _ _ _ _ _ _ _ _ _ _ _ _ _ _ _ _ _ _ _ _ _ _ _ _ _ _ _ _ _ _ _ _ _).symm (sout0_C_1_eq _ _ _ _ _ _ _ _ _ _ _ _ _ _ _ _ _ _ _ _ _ _ _ _ _ _ _ _ _ _ _ _ _ _ _ _ _ _ _ _ _ _ _ _ _ _ _ _).symm)

/-! ## The arrays -/

theorem at10 (t : Fin cfg0.N) (r k : Fin 1024) : G10 m c (ix2 (tok t r) k) = (outsAt0 m c t.val t.isLt).1 (ix2 r k) := by
  have ht := lt8 t
  have hp : pt10Of (ix2 (tok t r) k) = t.val := by
    show 1 * ((t.val * 1024 + r.val) / 1024 - 0) + 1 * (k.val / 1024 - 0) = t.val
    omega
  have hl : loc10Of (ix2 (tok t r) k) = ix2 r k := by
    funext a
    apply Fin.ext
    match a with
    | ⟨0, _⟩ => show (t.val * 1024 + r.val) % 1024 = r.val; omega
    | ⟨1, _⟩ => show k.val % 1024 = k.val; omega
  unfold G10
  rw [dif_pos (by rw [hp]; exact t.isLt), hl, fold0_congr m c _ _ t.val (by rw [Nat.zero_add]; exact t.isLt) hp,
    ← outsAt0_sweep m c t.val t.isLt]

theorem at12 (t : Fin cfg0.N) (r k : Fin 1024) : G12 m c (ix2 (tok t r) k) = (outsAt0 m c t.val t.isLt).2.2.1 (ix2 r k) := by
  have ht := lt8 t
  have hp : pt12Of (ix2 (tok t r) k) = t.val := by
    show 1 * ((t.val * 1024 + r.val) / 1024 - 0) + 1 * (k.val / 1024 - 0) = t.val
    omega
  have hl : loc12Of (ix2 (tok t r) k) = ix2 r k := by
    funext a
    apply Fin.ext
    match a with
    | ⟨0, _⟩ => show (t.val * 1024 + r.val) % 1024 = r.val; omega
    | ⟨1, _⟩ => show k.val % 1024 = k.val; omega
  unfold G12
  rw [dif_pos (by rw [hp]; exact t.isLt), hl, fold0_congr m c _ _ t.val (by rw [Nat.zero_add]; exact t.isLt) hp,
    ← outsAt0_sweep m c t.val t.isLt]

theorem at13 (t : Fin cfg0.N) (r k : Fin 1024) : G13 m c (ix2 (tok t r) k) = (outsAt0 m c t.val t.isLt).2.2.2.1 (ix2 r k) := by
  have ht := lt8 t
  have hp : pt13Of (ix2 (tok t r) k) = t.val := by
    show 1 * ((t.val * 1024 + r.val) / 1024 - 0) + 1 * (k.val / 1024 - 0) = t.val
    omega
  have hl : loc13Of (ix2 (tok t r) k) = ix2 r k := by
    funext a
    apply Fin.ext
    match a with
    | ⟨0, _⟩ => show (t.val * 1024 + r.val) % 1024 = r.val; omega
    | ⟨1, _⟩ => show k.val % 1024 = k.val; omega
  unfold G13
  rw [dif_pos (by rw [hp]; exact t.isLt), hl, fold0_congr m c _ _ t.val (by rw [Nat.zero_add]; exact t.isLt) hp,
    ← outsAt0_sweep m c t.val t.isLt]

/-- Every token is one of a block. -/
theorem tok_of (R : Fin 8192) : ∃ (t : Fin cfg0.N) (r : Fin 1024), R = tok t r :=
  ⟨⟨R.val / 1024, lt_of_lt_of_eq (by omega) N_0.symm⟩, ⟨R.val % 1024, by omega⟩,
    Fin.ext (by show R.val = R.val / 1024 * 1024 + R.val % 1024; omega)⟩

variable {m c} {D : Reals} (H : Holds m c D)

include H

theorem G12_at (R : Fin 8192) (k : Fin 1024) : G12 m c (ix2 R k)
    = D.sx R * ((D.x (rb R) (rn R) k : ℝ) : EReal) + V m c main_v23 (ix2 0 k) := by
  obtain ⟨t, r, rfl⟩ := tok_of R
  rw [at12, left12, kx_at H]

theorem G13_at (R : Fin 8192) (k : Fin 1024) : G13 m c (ix2 R k)
    = D.st R * ((D.t (rb R) (rn R) k : ℝ) : EReal) + V m c main_v29 (ix2 0 k) := by
  obtain ⟨t, r, rfl⟩ := tok_of R
  rw [at13, left13, kt_at H]

theorem G10_at (R : Fin 8192) (k : Fin 1024) : G10 m c (ix2 R k)
    = ((D.sx R * ((D.x (rb R) (rn R) k : ℝ) : EReal) + V m c main_v23 (ix2 0 k))
      + (D.st R * ((D.t (rb R) (rn R) k : ℝ) : EReal) + V m c main_v29 (ix2 0 k))) * (((1 / 2 : ℝ)) : EReal) := by
  obtain ⟨t, r, rfl⟩ := tok_of R
  rw [at10, left10, kout_at, kx_at H, kt_at H]

/-- The two running totals after point `n`. -/
theorem totals : ∀ (n : ℕ) (h : n < cfg0.N) (j : Fin 128),
    (outsAt0 m c n h).2.2.2.2.1 (ix2 0 j) = ((upto (fun r => D.G r (le j)) (n + 1) : ℝ) : EReal)
    ∧ (outsAt0 m c n h).2.2.2.2.2 (ix2 0 j) = ((upto (fun r => sel (D.a r) (D.b r) (le j)) (n + 1) : ℝ) : EReal)
  | 0, h, j => by
    have z14 : ∀ j : Fin 128, (k0_pay14 (F := Ideal)) (ix2 0 j) = (((fun _ : Fin 4 => (0 : ℝ)) (le j) : ℝ) : EReal) := fun j => by
      pointwise [k0_pay14]
      rfl
    have z15 : ∀ j : Fin 128, (k0_pay15 (F := Ideal)) (ix2 0 j) = (((fun _ : Fin 4 => (0 : ℝ)) (le j) : ℝ) : EReal) := fun j => by
      pointwise [k0_pay15]
      rfl
    have u := fun f => (upto_succ f ⟨0, h⟩).trans (congrArg (· + _) (upto_zero f))
    constructor
    · rw [first0, KPay.pay16 (gt := fun r => D.G (tok ⟨0, h⟩ r)) (A := fun _ => 0) (kg_at H ⟨0, h⟩) z14]
      exact congrArg _ (u fun r => D.G r (le j)).symm
    · rw [first1, KPay.pay17 (a := fun r => D.a (tok ⟨0, h⟩ r)) (b := fun r => D.b (tok ⟨0, h⟩ r)) (A := fun _ => 0) (km_at H ⟨0, h⟩) z15]
      exact congrArg _ (u fun r => sel (D.a r) (D.b r) (le j)).symm
  | n + 1, h, j => by
    have ih := totals n (Nat.lt_of_succ_lt h)
    constructor
    · rw [next0, KPay.pay16 (gt := fun r => D.G (tok ⟨n + 1, h⟩ r)) (A := fun e => upto (fun r => D.G r e) (n + 1))
        (kg_at H ⟨n + 1, h⟩) fun j => (ih j).1]
      exact congrArg _ (upto_succ (fun r => D.G r (le j)) ⟨n + 1, h⟩).symm
    · rw [next1, KPay.pay17 (a := fun r => D.a (tok ⟨n + 1, h⟩ r)) (b := fun r => D.b (tok ⟨n + 1, h⟩ r))
        (A := fun e => upto (fun r => sel (D.a r) (D.b r) e) (n + 1)) (km_at H ⟨n + 1, h⟩) fun j => (ih j).2]
      exact congrArg _ (upto_succ (fun r => sel (D.a r) (D.b r) (le j)) ⟨n + 1, h⟩).symm

theorem G11_at : G11 m c (ix2 0 0) = ((D.aux : ℝ) : EReal) := by
  have h7 : 7 < cfg0.N := lt_of_lt_of_eq (by decide) N_0.symm
  rw [G11_last, ← outsAt0_sweep m c 7 h7, last11 m c ⟨7, h7⟩ (show 7 % 8 = 7 from rfl),
    KPay.pay4 (A := D.imp) (B := D.load) (fun j => ((totals H 7 h7 j).1).trans (congrArg _ (upto_all _)))
      fun j => ((totals H 7 h7 j).2).trans (congrArg _ (upto_all _))]
  rfl

end Cert.KEnd

end
-- ==== Proof.RTok.lean ====
/-
  What the reference computes, number by number, in terms of the numbers the arguments hold.
-/
module

public import proofs.«01_k».proof.Proof.Data

@[expose] public section

noncomputable section

namespace Cert.RTok

open Idealize.ShloMosaic Idealize.ShloMosaic.TcCoe Cert.ReferenceIdeal Cert.ReferenceIdeal.Read
open Cert.Consts Cert.Model Cert.Data Cert.RRow

variable {D : Reals} {x0 x1 : (⟨S4x2048x1024, .f32⟩ : BufTy).Contents (Elt Ideal)} {x2 : (⟨S_, .i32⟩ : BufTy).Contents (Elt Ideal)}
  {x3 x4 : (⟨S2048, .f32⟩ : BufTy).Contents (Elt Ideal)} {x5 : (⟨S256x2048, .f32⟩ : BufTy).Contents (Elt Ideal)}
  {x6 x7 : (⟨S256, .f32⟩ : BufTy).Contents (Elt Ideal)} {x8 : (⟨S3x256x4, .f32⟩ : BufTy).Contents (Elt Ideal)}
  {x9 : (⟨S4x32x256, .f32⟩ : BufTy).Contents (Elt Ideal)} {x10 : (⟨S4x32, .f32⟩ : BufTy).Contents (Elt Ideal)}
  {x11 : (⟨S4x256x32, .f32⟩ : BufTy).Contents (Elt Ideal)} {x12 : (⟨S4x256, .f32⟩ : BufTy).Contents (Elt Ideal)}
  {x13 : (⟨S6x1024, .f32⟩ : BufTy).Contents (Elt Ideal)}

/-- The arguments the kernel leaves out are the ones that change nothing. -/
structure Plain (x3 x4 : FVec Ideal S2048 .f32) (x6 x7 : FVec Ideal S256 .f32) (x10 : FVec Ideal S4x32 .f32)
    (x12 : FVec Ideal S4x256 .f32) : Prop where
  h3 : ∀ k, x3 (ix1 k) = ((1 : ℝ) : EReal)
  h4 : ∀ k, x4 (ix1 k) = ((0 : ℝ) : EReal)
  h6 : ∀ k, x6 (ix1 k) = ((1 : ℝ) : EReal)
  h7 : ∀ k, x7 (ix1 k) = ((0 : ℝ) : EReal)
  h10 : ∀ e h, x10 (ix2 e h) = ((0 : ℝ) : EReal)
  h12 : ∀ e o, x12 (ix2 e o) = ((0 : ℝ) : EReal)

variable (A : Fits D x0 x1 x2 x5 x8 x9 x11) (P : Plain x3 x4 x6 x7 x10 x12)

theorem row_self (r : Fin 8192) : row (rb r) (rn r) = r :=
  Fin.ext (by show r.val / 2048 * 2048 + r.val % 2048 = r.val; omega)

theorem rb_row (b : Fin 4) (n : Fin 2048) : rb (row b n) = b := Fin.ext (by show (b.val * 2048 + n.val) / 2048 = b.val; omega)
theorem rn_row (b : Fin 4) (n : Fin 2048) : rn (row b n) = n := Fin.ext (by show (b.val * 2048 + n.val) % 2048 = n.val; omega)

include A P

theorem z_at (r : Fin 8192) (o : Fin 256) : val_main_v51 x0 x1 x3 x4 x5 x6 x7 (ix2 r o) = ((D.Z r o : ℝ) : EReal) := by
  have hwx : (fun (o : Fin 256) (k : Fin 1024) => x5 (ix2 o ⟨k.val, by omega⟩)) = D.wx := funext fun o => funext fun k => A.hw o _
  have hwt : (fun (o : Fin 256) (k : Fin 1024) => x5 (ix2 o ⟨1024 + k.val, by omega⟩)) = D.wt := funext fun o => funext fun k => A.hw o _
  rw [v51, v50 (y := D.y r) (fun o => ?_) P.h6 P.h7 o]
  · rfl
  · rw [v26 (A.hx _ _) (A.ht _ _) P.h3 P.h4, hwx, hwt, A.hy]

theorem q_at (r : Fin 8192) (e : Fin 4) (o : Fin 256) : val_main_v129 x0 x1 x3 x4 x5 x6 x7 x9 x10 x11 x12 (ix3 e r o)
    = ∑ h, D.f2 e o h * ((hid D.f1 (D.Z r) e h : ℝ) : EReal) := by
  rw [v129 (z_at A P r) A.hf1 P.h10 P.h12]
  simp only [A.hf2]

variable (G : ∀ r e, val_main_v100 x0 x1 x2 x3 x4 x5 x6 x7 x8 (ix2 r e) = ((D.G r e : ℝ) : EReal))

include G

theorem s_at (b : Fin 4) (n : Fin 2048) (o : Fin 256) :
    val_main_v131 x0 x1 x2 x3 x4 x5 x6 x7 x8 x9 x10 x11 x12 (ix3 b n o)
      = ∑ e, ((D.G (row b n) e : ℝ) : EReal) * ∑ h, D.f2 e o h * ((hid D.f1 (D.Z (row b n)) e h : ℝ) : EReal) :=
  v131 (G (row b n)) (q_at A P (row b n)) o

theorem sx_at (b : Fin 4) (n : Fin 2048) :
    val_main_v143 x0 x1 x2 x3 x4 x5 x6 x7 x8 x9 x10 x11 x12 (ix3 b n 0) = D.sx (row b n) :=
  (v143 (s_at A P G b n)).trans (congrArg Ideal.logistic
    (psum_eq (hid_nonneg D.f1 (D.Z (row b n))) (A.top (row b n)).gate_nonneg fun e o h => D.f2 e ⟨o.val, by omega⟩ h))

theorem st_at (b : Fin 4) (n : Fin 2048) :
    val_main_v153 x0 x1 x2 x3 x4 x5 x6 x7 x8 x9 x10 x11 x12 (ix3 b n 0) = D.st (row b n) :=
  (v153 (s_at A P G b n)).trans (congrArg Ideal.logistic
    (psum_eq (hid_nonneg D.f1 (D.Z (row b n))) (A.top (row b n)).gate_nonneg fun e o h => D.f2 e ⟨128 + o.val, by omega⟩ h))

theorem v168_at (r : Fin 8192) (k : Fin 1024) :
    val_main_v168 x0 x1 x2 x3 x4 x5 x6 x7 x8 x9 x10 x11 x12 x13 (ix3 (rb r) (rn r) k)
      = D.sx r * ((D.x (rb r) (rn r) k : ℝ) : EReal) + val_main_v164 x2 x13 (ix2 0 k) := by
  rw [RRest.v168 (sx := fun b n => D.sx (row b n)) (sx_at A P G), row_self, A.hx]

theorem v183_at (r : Fin 8192) (k : Fin 1024) :
    val_main_v183 x0 x1 x2 x3 x4 x5 x6 x7 x8 x9 x10 x11 x12 x13 (ix3 (rb r) (rn r) k)
      = D.st r * ((D.t (rb r) (rn r) k : ℝ) : EReal) + val_main_v179 x2 x13 (ix2 0 k) := by
  rw [RRest.v183 (st := fun b n => D.st (row b n)) (st_at A P G), row_self, A.ht]

omit P in
theorem aux_at (i : S1x1.Idx) : val_main_v190 x0 x1 x2 x3 x4 x5 x6 x7 x8 i = ((D.aux : ℝ) : EReal) :=
  RRest.v119 (A := D.imp) (B := D.load) (RRest.v101 (gt := D.G) G) (fun e => (RRest.v105 (gt := D.G) G e).trans
    (congrArg (fun q => ((q : ℝ) : EReal)) (Finset.sum_congr rfl fun r _ => by
      unfold sel
      exact if_congr ((A.top r).gate_pos_iff _) rfl rfl))) i

end Cert.RTok

end
-- ==== Proof.Pre.lean ====
/-
  What the precondition says of the arguments: the gains are one, the offsets and the biases zero, the hidden weights
  finite, and no two of a token's three greatest probabilities are equal. From the last part follows that the data,
  the reduced tokens and the exponentials of the logits are real numbers, since otherwise a token's four probabilities
  would all be equal.
-/
module

public import proofs.«01_k».proof.Proof.RTok
public import proofs.«01_k».proof.Proof.Gen.Pre_regular

@[expose] public section

set_option maxRecDepth 16384

noncomputable section

namespace Cert.Pre

open Idealize.ShloMosaic Idealize.ShloMosaic.TcCoe Cert.ReferenceIdeal Cert.ReferenceIdeal.Read
open Cert.Consts Cert.Model Cert.Data Cert.RRow Cert.RTok

attribute [local instance] Cert.Pre_regular.Gen.facts

variable {x0 x1 : (⟨S4x2048x1024, .f32⟩ : BufTy).Contents (Elt Ideal)} {x2 : (⟨S_, .i32⟩ : BufTy).Contents (Elt Ideal)}
  {x3 x4 : (⟨S2048, .f32⟩ : BufTy).Contents (Elt Ideal)} {x5 : (⟨S256x2048, .f32⟩ : BufTy).Contents (Elt Ideal)}
  {x6 x7 : (⟨S256, .f32⟩ : BufTy).Contents (Elt Ideal)} {x8 : (⟨S3x256x4, .f32⟩ : BufTy).Contents (Elt Ideal)}
  {x9 : (⟨S4x32x256, .f32⟩ : BufTy).Contents (Elt Ideal)} {x10 : (⟨S4x32, .f32⟩ : BufTy).Contents (Elt Ideal)}
  {x11 : (⟨S4x256x32, .f32⟩ : BufTy).Contents (Elt Ideal)} {x12 : (⟨S4x256, .f32⟩ : BufTy).Contents (Elt Ideal)}
  {x13 : (⟨S6x1024, .f32⟩ : BufTy).Contents (Elt Ideal)}

theorem one_of {p : Prop} [Decidable p] (h : BitVec.ofBool (decide p) = 1#1) : p := by
  by_contra hn
  rw [decide_eq_false hn] at h
  exact absurd h (by decide)

/-- A number whose size is below the pattern of infinity is a real number. -/
theorem real_of (v : EReal) (h : Ideal.cmp .olt (max v (-v)) (Ideal.ofBits .f32 0x7F800000#32) = 1#1) :
    v = ((v.toReal : ℝ) : EReal) := by
  have hlt : max v (-v) < ⊤ := by
    have := one_of (p := max v (-v) < Ideal.ofBits .f32 0x7F800000#32) h
    rwa [bits_top] at this
  have h1 : v ≠ ⊤ := fun e => by simp [e] at hlt
  have h2 : v ≠ ⊥ := fun e => by simp [e] at hlt
  exact (EReal.coe_toReal h1 h2).symm

theorem eq_of (v w : EReal) (h : Ideal.cmp .oeq v w = 1#1) : v = w := one_of (p := v = w) h

theorem gt_of (v w : EReal) (h : Ideal.cmp .ogt v w = 1#1) : w < v := one_of (p := w < v) h

theorem part0 (h : (Cert.Pre_regular.fn (F := Ideal) x0 x1 x2 x3 x4 x5 x6 x7 x8 x9 x10 x11 x12 x13).1 = fun _ => 1#1) : ∀ i : S2048.Idx, x3 i = ((1 : ℝ) : EReal) :=
  fun i => (eq_of (x3 i) (Ideal.ofBits .f32 0x3F800000#32) (congrFun h i)).trans bits_one

theorem part1 (h : (Cert.Pre_regular.fn (F := Ideal) x0 x1 x2 x3 x4 x5 x6 x7 x8 x9 x10 x11 x12 x13).2.1 = fun _ => 1#1) : ∀ i : S2048.Idx, x4 i = ((0 : ℝ) : EReal) :=
  fun i => (eq_of (x4 i) (Ideal.ofBits .f32 0x00000000#32) (congrFun h i)).trans bits_zero

theorem part2 (h : (Cert.Pre_regular.fn (F := Ideal) x0 x1 x2 x3 x4 x5 x6 x7 x8 x9 x10 x11 x12 x13).2.2.1 = fun _ => 1#1) : ∀ i : S256.Idx, x6 i = ((1 : ℝ) : EReal) :=
  fun i => (eq_of (x6 i) (Ideal.ofBits .f32 0x3F800000#32) (congrFun h i)).trans bits_one

theorem part3 (h : (Cert.Pre_regular.fn (F := Ideal) x0 x1 x2 x3 x4 x5 x6 x7 x8 x9 x10 x11 x12 x13).2.2.2.1 = fun _ => 1#1) : ∀ i : S256.Idx, x7 i = ((0 : ℝ) : EReal) :=
  fun i => (eq_of (x7 i) (Ideal.ofBits .f32 0x00000000#32) (congrFun h i)).trans bits_zero

theorem part4 (h : (Cert.Pre_regular.fn (F := Ideal) x0 x1 x2 x3 x4 x5 x6 x7 x8 x9 x10 x11 x12 x13).2.2.2.2.1 = fun _ => 1#1) : ∀ i : S4x32x256.Idx, x9 i = (((x9 i).toReal : ℝ) : EReal) :=
  fun i => real_of (x9 i) (congrFun h i)

theorem part5 (h : (Cert.Pre_regular.fn (F := Ideal) x0 x1 x2 x3 x4 x5 x6 x7 x8 x9 x10 x11 x12 x13).2.2.2.2.2.1 = fun _ => 1#1) : ∀ i : S4x32.Idx, x10 i = ((0 : ℝ) : EReal) :=
  fun i => (eq_of (x10 i) (Ideal.ofBits .f32 0x00000000#32) (congrFun h i)).trans bits_zero

theorem part6 (h : (Cert.Pre_regular.fn (F := Ideal) x0 x1 x2 x3 x4 x5 x6 x7 x8 x9 x10 x11 x12 x13).2.2.2.2.2.2.1 = fun _ => 1#1) : ∀ i : S4x256.Idx, x12 i = ((0 : ℝ) : EReal) :=
  fun i => (eq_of (x12 i) (Ideal.ofBits .f32 0x00000000#32) (congrFun h i)).trans bits_zero

/-- The probabilities the precondition compares are the ones the reference ranks. -/
theorem probs : (Cert.Pre_regular.fn (F := Ideal) x0 x1 x2 x3 x4 x5 x6 x7 x8 x9 x10 x11 x12 x13).2.2.2.2.2.2.2
    = (Cert.Pre_regular.fn_part5 (F := Ideal) x10 x12 (val_main_values x0 x1 x2 x3 x4 x5 x6 x7 x8) (Cert.Pre_regular.fn (F := Ideal) x0 x1 x2 x3 x4 x5 x6 x7 x8 x9 x10 x11 x12 x13).1 (Cert.Pre_regular.fn (F := Ideal) x0 x1 x2 x3 x4 x5 x6 x7 x8 x9 x10 x11 x12 x13).2.1 (Cert.Pre_regular.fn (F := Ideal) x0 x1 x2 x3 x4 x5 x6 x7 x8 x9 x10 x11 x12 x13).2.2.1 (Cert.Pre_regular.fn (F := Ideal) x0 x1 x2 x3 x4 x5 x6 x7 x8 x9 x10 x11 x12 x13).2.2.2.1 (Cert.Pre_regular.fn (F := Ideal) x0 x1 x2 x3 x4 x5 x6 x7 x8 x9 x10 x11 x12 x13).2.2.2.2.1 x10).2.2.2.2.2.2.2 := rfl

/-- The last result of the precondition, read at a token. -/
theorem strict (v : FVec Ideal Cert.Pre_regular.S8192x3 .f32) {p q a b c d e f}
    (h : (Cert.Pre_regular.fn_part5 (F := Ideal) p q v a b c d e f).2.2.2.2.2.2.2 = fun _ => 1#1) (r : Fin 8192) :
    v (ix2 r 1) < v (ix2 r 0) ∧ v (ix2 r 2) < v (ix2 r 1) := by
  have e0 := congrFun h (ix2 r 0)
  have e1 := congrFun h (ix2 r 1)
  dsimp only [Cert.Pre_regular.fn_part5] at e0 e1
  have e0' := gt_of _ _ e0
  have e1' := gt_of _ _ e1
  have s0 : ∀ k : Fin 2, extractStridedSlice Cert.Pre_regular.S8192x2 ![0, 0] v Cert.Pre_regular.Facts.slices_S8192x3_S8192x2_0_0 (ix2 r k) = v (ix2 r ⟨k.val, by omega⟩) := fun k => by
    pointwise []
  have s1 : ∀ k : Fin 2, extractStridedSlice Cert.Pre_regular.S8192x2 ![0, 1] v Cert.Pre_regular.Facts.slices_S8192x3_S8192x2_0_1 (ix2 r k) = v (ix2 r ⟨1 + k.val, by omega⟩) := fun k => by
    pointwise []
  rw [s0, s1] at e0' e1'
  exact ⟨e0', e1'⟩

theorem part7 (h : (Cert.Pre_regular.fn (F := Ideal) x0 x1 x2 x3 x4 x5 x6 x7 x8 x9 x10 x11 x12 x13).2.2.2.2.2.2.2 = fun _ => 1#1) (r : Fin 8192) :
    val_main_values x0 x1 x2 x3 x4 x5 x6 x7 x8 (ix2 r 1) < val_main_values x0 x1 x2 x3 x4 x5 x6 x7 x8 (ix2 r 0)
    ∧ val_main_values x0 x1 x2 x3 x4 x5 x6 x7 x8 (ix2 r 2) < val_main_values x0 x1 x2 x3 x4 x5 x6 x7 x8 (ix2 r 1) :=
  strict _ (probs.symm.trans h) r

/-! ## What the strict order gives of one token -/

section

variable {r : Fin 8192} (h01 : val_main_values x0 x1 x2 x3 x4 x5 x6 x7 x8 (ix2 r 1) < val_main_values x0 x1 x2 x3 x4 x5 x6 x7 x8 (ix2 r 0))

include h01

/-- A token normalized to zero has equal probabilities. -/
theorem not_zero (hz : ∀ o, val_main_v51 x0 x1 x3 x4 x5 x6 x7 (ix2 r o) = ((0 : ℝ) : EReal)) : False := by
  have hl : ∀ e, val_main_v63 x0 x1 x2 x3 x4 x5 x6 x7 x8 (ix2 r e) = (fun _ : Fin 4 => (0 : EReal)) e := fun e => by
    rw [v63 (z := fun _ => 0) hz]
    unfold lg
    simp only [EReal.coe_zero, zero_mul, Finset.sum_const_zero]
  exact Cert.RGate.not_flat r (v74 hl) h01

variable (h6 : ∀ k, x6 (ix1 k) = ((1 : ℝ) : EReal)) (h7 : ∀ k, x7 (ix1 k) = ((0 : ℝ) : EReal))

include h6 h7

/-- The reduced token is made of real numbers. -/
theorem y_real (o : Fin 256) : ∃ q : ℝ, val_main_v26 x0 x1 x3 x4 x5 (ix3 (rb r) (rn r) o) = (q : EReal) := by
  by_contra hn
  exact not_zero h01 fun o' => (v51 r o').trans (v50_inf ⟨o, hn⟩ h6 h7 o')

variable (h3 : ∀ k, x3 (ix1 k) = ((1 : ℝ) : EReal)) (h4 : ∀ k, x4 (ix1 k) = ((0 : ℝ) : EReal))

include h3 h4

/-- So is the token itself. -/
theorem xt_real (k : Fin 1024 ⊕ Fin 1024) :
    ∃ q : ℝ, Sum.elim (fun k : Fin 1024 => x0 (ix3 (rb r) (rn r) k)) (fun k : Fin 1024 => x1 (ix3 (rb r) (rn r) k)) k = (q : EReal) := by
  by_contra hn
  refine not_zero h01 fun o => (v51 r o).trans ((v50 (y := fun _ => 0) (v26_inf ⟨k, hn⟩ h3 h4) h6 h7 o).trans ?_)
  unfold zv mu2
  simp

end

/-- The numbers the arguments hold, what the tokens are reduced to, and two experts for each token. -/
def reals (x0 x1 : (⟨S4x2048x1024, .f32⟩ : BufTy).Contents (Elt Ideal)) (x2 : (⟨S_, .i32⟩ : BufTy).Contents (Elt Ideal))
    (x3 x4 : (⟨S2048, .f32⟩ : BufTy).Contents (Elt Ideal)) (x5 : (⟨S256x2048, .f32⟩ : BufTy).Contents (Elt Ideal))
    (x8 : (⟨S3x256x4, .f32⟩ : BufTy).Contents (Elt Ideal)) (x9 : (⟨S4x32x256, .f32⟩ : BufTy).Contents (Elt Ideal))
    (x11 : (⟨S4x256x32, .f32⟩ : BufTy).Contents (Elt Ideal)) (u : Fin 8192 → Fin 4 → ℝ) (a b : Fin 8192 → Fin 4) : Reals where
  x i n k := EReal.toReal (x0 (ix3 i n k))
  t i n k := EReal.toReal (x1 (ix3 i n k))
  w o k := x5 (ix2 o k)
  y r o := EReal.toReal (val_main_v26 x0 x1 x3 x4 x5 (ix3 (rb r) (rn r) o))
  g k e := val_main_v62 (F := Ideal) x2 x8 (ix2 k e)
  u := u
  f1 e i k := EReal.toReal (x9 (ix3 e i k))
  f2 e o i := x11 (ix3 e o i)
  a := a
  b := b

theorem coe_of {v : EReal} (h : ∃ q : ℝ, v = (q : EReal)) : v = ((v.toReal : ℝ) : EReal) := by
  obtain ⟨q, rfl⟩ := h
  rw [EReal.toReal_coe]

/-- Under the precondition the arguments hold such numbers, the left-out ones change nothing, and each token has its two
    experts, whose gates the reference holds. -/
theorem fits
    (h0 : (Cert.Pre_regular.fn (F := Ideal) x0 x1 x2 x3 x4 x5 x6 x7 x8 x9 x10 x11 x12 x13).1 = fun _ => 1#1)
    (h1 : (Cert.Pre_regular.fn (F := Ideal) x0 x1 x2 x3 x4 x5 x6 x7 x8 x9 x10 x11 x12 x13).2.1 = fun _ => 1#1)
    (h2 : (Cert.Pre_regular.fn (F := Ideal) x0 x1 x2 x3 x4 x5 x6 x7 x8 x9 x10 x11 x12 x13).2.2.1 = fun _ => 1#1)
    (h3 : (Cert.Pre_regular.fn (F := Ideal) x0 x1 x2 x3 x4 x5 x6 x7 x8 x9 x10 x11 x12 x13).2.2.2.1 = fun _ => 1#1)
    (h4 : (Cert.Pre_regular.fn (F := Ideal) x0 x1 x2 x3 x4 x5 x6 x7 x8 x9 x10 x11 x12 x13).2.2.2.2.1 = fun _ => 1#1)
    (h5 : (Cert.Pre_regular.fn (F := Ideal) x0 x1 x2 x3 x4 x5 x6 x7 x8 x9 x10 x11 x12 x13).2.2.2.2.2.1 = fun _ => 1#1)
    (h6 : (Cert.Pre_regular.fn (F := Ideal) x0 x1 x2 x3 x4 x5 x6 x7 x8 x9 x10 x11 x12 x13).2.2.2.2.2.2.1 = fun _ => 1#1)
    (h7 : (Cert.Pre_regular.fn (F := Ideal) x0 x1 x2 x3 x4 x5 x6 x7 x8 x9 x10 x11 x12 x13).2.2.2.2.2.2.2 = fun _ => 1#1)
    : ∃ D : Reals, Fits D x0 x1 x2 x5 x8 x9 x11 ∧ Plain x3 x4 x6 x7 x10 x12
      ∧ ∀ r e, val_main_v100 x0 x1 x2 x3 x4 x5 x6 x7 x8 (ix2 r e) = ((D.G r e : ℝ) : EReal) := by
  have P : Plain x3 x4 x6 x7 x10 x12 := ⟨fun k => part0 h0 _, fun k => part1 h1 _, fun k => part2 h2 _, fun k => part3 h3 _,
    fun e i => part5 h5 _, fun e o => part6 h6 _⟩
  have hxr : ∀ r k, x0 (ix3 (rb r) (rn r) k) = ((EReal.toReal (x0 (ix3 (rb r) (rn r) k)) : ℝ) : EReal) := fun r k =>
    coe_of (xt_real (part7 h7 r).1 P.h6 P.h7 P.h3 P.h4 (Sum.inl k))
  have htr : ∀ r k, x1 (ix3 (rb r) (rn r) k) = ((EReal.toReal (x1 (ix3 (rb r) (rn r) k)) : ℝ) : EReal) := fun r k =>
    coe_of (xt_real (part7 h7 r).1 P.h6 P.h7 P.h3 P.h4 (Sum.inr k))
  have hyr : ∀ r o, val_main_v26 x0 x1 x3 x4 x5 (ix3 (rb r) (rn r) o)
      = ((EReal.toReal (val_main_v26 x0 x1 x3 x4 x5 (ix3 (rb r) (rn r) o)) : ℝ) : EReal) := fun r o =>
    coe_of (y_real (part7 h7 r).1 P.h6 P.h7 o)
  have hx : ∀ i n k, x0 (ix3 i n k) = ((EReal.toReal (x0 (ix3 i n k)) : ℝ) : EReal) := fun i n k => by
    have := hxr (row i n) k
    rwa [rb_row, rn_row] at this
  have ht : ∀ i n k, x1 (ix3 i n k) = ((EReal.toReal (x1 (ix3 i n k)) : ℝ) : EReal) := fun i n k => by
    have := htr (row i n) k
    rwa [rb_row, rn_row] at this
  have hz : ∀ r o, val_main_v51 x0 x1 x3 x4 x5 x6 x7 (ix2 r o)
      = ((zv (fun o => EReal.toReal (val_main_v26 x0 x1 x3 x4 x5 (ix3 (rb r) (rn r) o))) o : ℝ) : EReal) := fun r o =>
    (v51 r o).trans (v50 (hyr r) P.h6 P.h7 o)
  have hsoft : ∀ r, ∃ (u : Fin 4 → ℝ) (s : ℝ), 0 < s ∧ (∀ e, 0 ≤ u e) ∧ 0 < ∑ e, u e
      ∧ (∀ e, Ideal.exp (lg (fun k e => val_main_v62 (F := Ideal) x2 x8 (ix2 k e))
          (zv fun o => EReal.toReal (val_main_v26 x0 x1 x3 x4 x5 (ix3 (rb r) (rn r) o))) e) = ((u e : ℝ) : EReal))
      ∧ ∀ e, val_main_v74 x0 x1 x2 x3 x4 x5 x6 x7 x8 (ix2 r e) = ((u e * s / ∑ k, u k * s : ℝ) : EReal) := fun r => by
    have hv := v74 (x8 := x8) (x2 := x2) (v63 (hz r))
    rcases soft (lg (fun k e => val_main_v62 (F := Ideal) x2 x8 (ix2 k e))
        (zv fun o => EReal.toReal (val_main_v26 x0 x1 x3 x4 x5 (ix3 (rb r) (rn r) o)))) with ⟨q, hq⟩ | ⟨u, s, k0, k1, k2, k3, k4⟩
    · exact (Cert.RGate.not_flat r (fun e => (hv e).trans (hq e)) (part7 h7 r).1).elim
    · exact ⟨u, s, k0, k1, k2, k3, fun e => (hv e).trans (k4 e)⟩
  choose u s k0 k1 k2 k3 k4 using hsoft
  obtain ⟨a, b, top, G⟩ := Cert.RGate.v100_gate k1 k0 k2 k4 (fun r => (part7 h7 r).1) fun r => (part7 h7 r).2
  exact ⟨reals x0 x1 x2 x3 x4 x5 x8 x9 x11 u a b,
    ⟨hx, ht, fun o k => rfl, fun r o => ((v26 (hxr r) (htr r) P.h3 P.h4 o).symm.trans (hyr r o)), fun k e => rfl, k3,
      fun e i k => part4 h4 _, fun e o i => rfl, top⟩, P, G⟩

end Cert.Pre

end
-- ==== Proof.Equal.lean ====
/-
  Under the precondition the four arrays the reference computes are the four arrays the kernel leaves.
-/
module

public import proofs.«01_k».proof.Proof.KEnd
public import proofs.«01_k».proof.Proof.Pre
public import proofs.«01_k».proof.Defs

@[expose] public section

set_option maxRecDepth 16384

noncomputable section

namespace Cert.Equal

open Idealize.ShloMosaic Idealize.ShloMosaic.TcCoe Idealize.SL.Sem Cert.KernelIdeal Cert.KernelIdeal.Gen Cert.KernelIdeal.Value
open Cert.Consts Cert.Model Cert.Data Cert.RRow Cert.RTok Cert.KPoint
open Cert.ReferenceIdeal.Read (val_main_v100 val_main_v189 val_main_v190 val_main_v191 val_main_v192)

attribute [local instance] Cert.Pre_regular.Gen.facts

variable (m : (ℓ : Loc nD τ sig) → Buf (Elt Ideal) ℓ) (c : Dev nD)

/-- What the precondition gives on a device. -/
structure Good (D : Reals) : Prop where
  H : Holds m c D
  P : Plain (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg10)) (m ((c.tc : Thread nD τ).loc main_arg12))
  G : ∀ r e, val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 r e) = ((D.G r e : ℝ) : EReal)

theorem good (h : Cert.Pre_KernelIdeal_regular m) : ∃ D, Good m c D := by
  obtain ⟨h0, h1, h2, h3, h4, h5, h6, h7⟩ := h c
  obtain ⟨D, H, P, G⟩ := Cert.Pre.fits h0 h1 h2 h3 h4 h5 h6 h7
  exact ⟨D, H, P, G⟩

variable {m c} {D : Reals} (g : Good m c D)

/-- Halving a sum is summing the halves. -/
theorem half_add (a b : EReal) : ((1 / 2 : ℝ) : EReal) * a + ((1 / 2 : ℝ) : EReal) * b = (a + b) * ((1 / 2 : ℝ) : EReal) := by
  rw [mul_comm (a + b), EReal.left_distrib_of_nonneg_of_ne_top (EReal.coe_nonneg.mpr (by norm_num)) (EReal.coe_ne_top _)]

include g

theorem at12 (r : Fin 8192) (k : Fin 1024) : val_main_v191 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix2 r k) = G12 m c (ix2 r k) := by
  exact (RRest.v191 r k).trans ((v168_at g.H g.P g.G r k).trans
    ((congrArg (fun z : EReal => _ + z) (KHost.V_v23 m c k).symm).trans (KEnd.G12_at g.H r k).symm))

theorem same12 : val_main_v191 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) = G12 m c := by
  funext i
  obtain ⟨r, k, rfl⟩ : ∃ (r : Fin 8192) (k : Fin 1024), i = ix2 r k := ⟨i 0, i 1, ValueIdx.eq_ix2 i⟩
  exact at12 g r k

theorem at13 (r : Fin 8192) (k : Fin 1024) : val_main_v192 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix2 r k) = G13 m c (ix2 r k) := by
  exact (RRest.v192 r k).trans ((v183_at g.H g.P g.G r k).trans
    ((congrArg (fun z : EReal => _ + z) (KHost.V_v29 m c k).symm).trans (KEnd.G13_at g.H r k).symm))

theorem same13 : val_main_v192 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) = G13 m c := by
  funext i
  obtain ⟨r, k, rfl⟩ : ∃ (r : Fin 8192) (k : Fin 1024), i = ix2 r k := ⟨i 0, i 1, ValueIdx.eq_ix2 i⟩
  exact at13 g r k

theorem at10 (r : Fin 8192) (k : Fin 1024) : val_main_v189 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix2 r k) = G10 m c (ix2 r k) := by
  refine (RRest.v189 r k).trans ((half_add _ _).trans ?_)
  have hx := (v168_at (x13 := (m ((c.tc : Thread nD τ).loc main_arg13))) g.H g.P g.G r k).trans (congrArg (fun z : EReal => _ + z) (KHost.V_v23 m c k).symm)
  have ht := (v183_at (x13 := (m ((c.tc : Thread nD τ).loc main_arg13))) g.H g.P g.G r k).trans (congrArg (fun z : EReal => _ + z) (KHost.V_v29 m c k).symm)
  rw [hx, ht]
  exact (KEnd.G10_at g.H r k).symm

theorem same10 : val_main_v189 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) = G10 m c := by
  funext i
  obtain ⟨r, k, rfl⟩ : ∃ (r : Fin 8192) (k : Fin 1024), i = ix2 r k := ⟨i 0, i 1, ValueIdx.eq_ix2 i⟩
  exact at10 g r k

theorem same11 : val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = G11 m c := by
  funext i
  obtain ⟨p, q, rfl⟩ : ∃ p q : Fin 1, i = ix2 p q := ⟨i 0, i 1, ValueIdx.eq_ix2 i⟩
  obtain rfl : p = 0 := Subsingleton.elim _ _
  obtain rfl : q = 0 := Subsingleton.elim _ _
  exact (aux_at g.H g.G _).trans (KEnd.G11_at g.H).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_regular
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference's run read at its arguments; it declares no semaphore. -/
theorem frame_ref : Cert.quiescent_ReferenceIdeal (hReferenceIdeal := Cert.ReferenceIdeal.Gen.facts) := by
  intro m ρ _
  exact (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The value claim: the two programs end with equal results under the stated precondition. -/
theorem algebraic : Cert.algebraic_KernelIdeal_ReferenceIdeal_pre_regular (hKernelIdeal := Cert.KernelIdeal.Gen.facts)
    (hReferenceIdeal := Cert.ReferenceIdeal.Gen.facts) (hPre_regular := Cert.Pre_regular.Gen.facts) := by
  intro m g m' g' hp ha
  refine ⟨Cert.KernelIdeal.Value.G10 m, Cert.KernelIdeal.Value.G11 m, Cert.KernelIdeal.Value.G12 m, Cert.KernelIdeal.Value.G13 m,
    Cert.KernelIdeal.Value.run m g, ?_⟩
  refine (θ_run Cert.ReferenceIdeal.defs _ _).mono (fun r h c => ?_) (Cert.ReferenceIdeal.Value.run (F := Ideal) m' g')
  obtain ⟨D, good⟩ := Cert.Equal.good m c hp
  obtain ⟨h0, h1, h2, h3, hrest⟩ := h c
  obtain ⟨e0, e1, e2, e3, e4, e5, e6, e7, e8, e9, e10, e11, e12, e13⟩ := ha c
  refine ⟨h0.trans ?_, h1.trans ?_, h2.trans ?_, h3.trans ?_, hrest⟩
  · refine (Cert.ReferenceIdeal.Read.val_main_v189_eq (F := Ideal) (StableHlo.launchContents m' c)).trans (Eq.trans ?_ (Cert.Equal.same10 good))
    show Cert.ReferenceIdeal.Read.val_main_v189 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
    rw [e0, e1, e2, e3, e4, e5, e6, e7, e8, e9, e10, e11, e12, e13]
  · refine (Cert.ReferenceIdeal.Read.val_main_v190_eq (F := Ideal) (StableHlo.launchContents m' c)).trans (Eq.trans ?_ (Cert.Equal.same11 good))
    show Cert.ReferenceIdeal.Read.val_main_v190 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [e0, e1, e2, e3, e4, e5, e6, e7, e8]
  · refine (Cert.ReferenceIdeal.Read.val_main_v191_eq (F := Ideal) (StableHlo.launchContents m' c)).trans (Eq.trans ?_ (Cert.Equal.same12 good))
    show Cert.ReferenceIdeal.Read.val_main_v191 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
    rw [e0, e1, e2, e3, e4, e5, e6, e7, e8, e9, e10, e11, e12, e13]
  · refine (Cert.ReferenceIdeal.Read.val_main_v192_eq (F := Ideal) (StableHlo.launchContents m' c)).trans (Eq.trans ?_ (Cert.Equal.same13 good))
    show Cert.ReferenceIdeal.Read.val_main_v192 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
    rw [e0, e1, e2, e3, e4, e5, e6, e7, e8, e9, e10, e11, e12, e13]

theorem claim : Cert.Claim := ⟨Cert.Kernel.Gen.facts, Cert.KernelIdeal.Gen.facts, Cert.ReferenceIdeal.Gen.facts,
  Cert.Pre_regular.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  IdealRules.named_const.statement Cert.KernelIdeal.κ "inv96" .f32 0x3C2AAAAB#32 ((1 / 96 : ℝ) : EReal) rfl,
  algebraic⟩

end Cert.Proof

end
